-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x50 : Shape := ⟨2, ![16384, 50]⟩
abbrev S24x32 : Shape := ⟨2, ![24, 32]⟩
abbrev S96 : Shape := ⟨1, ![96]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel
  bcast_S_S24x32 : S_.BroadcastsInDim S24x32 (![] : Fin 0 → Fin S24x32.rank)
  reducesTo_S24x32_S_d0_1 : S24x32.ReducesTo [0, 1] S_

variable [Facts]

def fn {F : FTy → Type} [FloatOps F] (main_arg0 : FVec F S16384x50 .f32) (main_arg1 : FVec F S24x32 .f32) (main_arg2 : FVec F S96 .f32) : IVec S_ 1 :=
  let main_cst : FVec F S_ .f32 := constant S_ .f32 0x00000000#32
  let main_v0 : FVec F S16384x50 .f32 := broadcastInDim S16384x50 ![] bcast_S_S16384x50 main_cst
  let main_v1 : IVec S16384x50 1 := cmpf .oeq main_arg0 main_v0
  let main_cst_0 : FVec F S_ .f32 := constant S_ .f32 0x322BCC77#32
  let main_v2 : FVec F S16384x50 .f32 := broadcastInDim S16384x50 ![] bcast_S_S16384x50 main_cst_0
  let main_v3 : IVec S16384x50 1 := cmpf .oge main_arg0 main_v2
  let main_cst_1 : FVec F S_ .f32 := constant S_ .f32 0x5A0CAFFD#32
  let main_v4 : FVec F S16384x50 .f32 := broadcastInDim S16384x50 ![] bcast_S_S16384x50 main_cst_1
  let main_v5 : IVec S16384x50 1 := cmpf .olt main_arg0 main_v4
  let main_v6 : IVec S16384x50 1 := andi main_v3 main_v5
  let main_v7 : IVec S16384x50 1 := ori main_v1 main_v6
  let main_c : IVec S_ 1 := constantI S_ 1 1#1
  let main_v8 : IVec S_ 1 := (fun x v => Host.reduce IntOp.andi x v reducesTo_S16384x50_S_d0_1 h_S_) main_v7 main_c
  let main_v9 : FVec F S24x32 .f32 := Host.absf main_arg1
  let main_cst_2 : FVec F S_ .f32 := constant S_ .f32 0x7F800000#32
  let main_v10 : FVec F S24x32 .f32 := broadcastInDim S24x32 ![] bcast_S_S24x32 main_cst_2
  let main_v11 : IVec S24x32 1 := cmpf .olt main_v9 main_v10
  let main_c_3 : IVec S_ 1 := constantI S_ 1 1#1
  let main_v12 : IVec S_ 1 := (fun x v => Host.reduce IntOp.andi x v reducesTo_S24x32_S_d0_1 h_S_) main_v11 main_c_3
  let main_v13 : IVec S_ 1 := andi main_v8 main_v12
  main_v13
-- ==== Kernel.lean ====
abbrev S16384x50 : Shape := ⟨2, ![16384, 50]⟩
abbrev S24x32 : Shape := ⟨2, ![24, 32]⟩
abbrev S96 : Shape := ⟨1, ![96]⟩
abbrev S50x16384 : Shape := ⟨2, ![50, 16384]⟩
abbrev S24 : Shape := ⟨1, ![24]⟩
abbrev S_ : Shape := ⟨0, ![]⟩
abbrev S1x24 : Shape := ⟨2, ![1, 24]⟩
abbrev S2x24 : Shape := ⟨2, ![2, 24]⟩
abbrev S48 : Shape := ⟨1, ![48]⟩
abbrev S1x48 : Shape := ⟨2, ![1, 48]⟩
abbrev S48x128 : Shape := ⟨2, ![48, 128]⟩
abbrev S1 : Shape := ⟨1, ![1]⟩
abbrev S2 : Shape := ⟨1, ![2]⟩
abbrev S24x1 : Shape := ⟨2, ![24, 1]⟩
abbrev S24x96 : Shape := ⟨2, ![24, 96]⟩
abbrev S32 : Shape := ⟨1, ![32]⟩
abbrev S128 : Shape := ⟨1, ![128]⟩
abbrev S1x128 : Shape := ⟨2, ![1, 128]⟩
abbrev S16384x50x128 : Shape := ⟨3, ![16384, 50, 128]⟩
abbrev S50x256 : Shape := ⟨2, ![50, 256]⟩
abbrev S256x50x128 : Shape := ⟨3, ![256, 50, 128]⟩
abbrev S50x1 : Shape := ⟨2, ![50, 1]⟩
abbrev S50 : Shape := ⟨1, ![50]⟩
abbrev S50x128 : Shape := ⟨2, ![50, 128]⟩
abbrev S50x48 : Shape := ⟨2, ![50, 48]⟩
abbrev S1x50x128 : Shape := ⟨3, ![1, 50, 128]⟩

abbrev nBuf : Space → Nat
  | .hbm => 102
  | .vmem => 8
  | .smem => 0
  | _ => 0

abbrev bufTy : (tb : Table) → Fin (tcTables nBuf tb) → BufTy
  | .hbm, ⟨0, _⟩ => ⟨S16384x50, .f32⟩
  | .hbm, ⟨1, _⟩ => ⟨S24x32, .f32⟩
  | .hbm, ⟨2, _⟩ => ⟨S96, .f32⟩
  | .hbm, ⟨3, _⟩ => ⟨S50x16384, .f32⟩
  | .hbm, ⟨4, _⟩ => ⟨S24, .i32⟩
  | .hbm, ⟨5, _⟩ => ⟨S_, .i32⟩
  | .hbm, ⟨6, _⟩ => ⟨S24, .i32⟩
  | .hbm, ⟨7, _⟩ => ⟨S24, .i32⟩
  | .hbm, ⟨8, _⟩ => ⟨S24, .f32⟩
  | .hbm, ⟨9, _⟩ => ⟨S_, .i32⟩
  | .hbm, ⟨10, _⟩ => ⟨S24, .i32⟩
  | .hbm, ⟨11, _⟩ => ⟨S24, .i1⟩
  | .hbm, ⟨12, _⟩ => ⟨S_, .f32⟩
  | .hbm, ⟨13, _⟩ => ⟨S24, .f32⟩
  | .hbm, ⟨14, _⟩ => ⟨S24, .f32⟩
  | .hbm, ⟨15, _⟩ => ⟨S_, .f32⟩
  | .hbm, ⟨16, _⟩ => ⟨S_, .f32⟩
  | .hbm, ⟨17, _⟩ => ⟨S24, .f32⟩
  | .hbm, ⟨18, _⟩ => ⟨S24, .f32⟩
  | .hbm, ⟨19, _⟩ => ⟨S_, .i32⟩
  | .hbm, ⟨20, _⟩ => ⟨S24, .i32⟩
  | .hbm, ⟨21, _⟩ => ⟨S24, .i1⟩
  | .hbm, ⟨22, _⟩ => ⟨S_, .f32⟩
  | .hbm, ⟨23, _⟩ => ⟨S24, .f32⟩
  | .hbm, ⟨24, _⟩ => ⟨S24, .f32⟩
  | .hbm, ⟨25, _⟩ => ⟨S_, .f32⟩
  | .hbm, ⟨26, _⟩ => ⟨S24, .f32⟩
  | .hbm, ⟨27, _⟩ => ⟨S24, .f32⟩
  | .hbm, ⟨28, _⟩ => ⟨S_, .f32⟩
  | .hbm, ⟨29, _⟩ => ⟨S_, .f32⟩
  | .hbm, ⟨30, _⟩ => ⟨S24, .f32⟩
  | .hbm, ⟨31, _⟩ => ⟨S24, .f32⟩
  | .hbm, ⟨32, _⟩ => ⟨S1x24, .f32⟩
  | .hbm, ⟨33, _⟩ => ⟨S2x24, .f32⟩
  | .hbm, ⟨34, _⟩ => ⟨S48, .f32⟩
  | .hbm, ⟨35, _⟩ => ⟨S1x48, .f32⟩
  | .hbm, ⟨36, _⟩ => ⟨S1x24, .f32⟩
  | .hbm, ⟨37, _⟩ => ⟨S2x24, .f32⟩
  | .hbm, ⟨38, _⟩ => ⟨S48, .f32⟩
  | .hbm, ⟨39, _⟩ => ⟨S1x48, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S24, .f32⟩
  | .hbm, ⟨48, _⟩ => ⟨S_, .f32⟩
  | .hbm, ⟨49, _⟩ => ⟨S24, .f32⟩
  | .hbm, ⟨50, _⟩ => ⟨S24, .f32⟩
  | .hbm, ⟨51, _⟩ => ⟨S24, .f32⟩
  | .hbm, ⟨52, _⟩ => ⟨S24, .f32⟩
  | .hbm, ⟨53, _⟩ => ⟨S24, .bf16⟩
  | .hbm, ⟨54, _⟩ => ⟨S24, .f32⟩
  | .hbm, ⟨55, _⟩ => ⟨S24, .f32⟩
  | .hbm, ⟨56, _⟩ => ⟨S24x32, .bf16⟩
  | .hbm, ⟨57, _⟩ => ⟨S24x32, .f32⟩
  | .hbm, ⟨58, _⟩ => ⟨S24x32, .f32⟩
  | .hbm, ⟨59, _⟩ => ⟨S_, .bf16⟩
  | .hbm, ⟨60, _⟩ => ⟨S48x128, .bf16⟩
  | .hbm, ⟨61, _⟩ => ⟨S24x32, .bf16⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S48x128, .bf16⟩
  | .hbm, ⟨68, _⟩ => ⟨S24x32, .bf16⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S48x128, .bf16⟩
  | .hbm, ⟨75, _⟩ => ⟨S24, .bf16⟩
  | .hbm, ⟨76, _⟩ => ⟨S24x1, .bf16⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S24x96, .bf16⟩
  | .hbm, ⟨83, _⟩ => ⟨S48x128, .bf16⟩
  | .hbm, ⟨84, _⟩ => ⟨S24, .bf16⟩
  | .hbm, ⟨85, _⟩ => ⟨S24x1, .bf16⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S24x96, .bf16⟩
  | .hbm, ⟨92, _⟩ => ⟨S48x128, .bf16⟩
  | .hbm, ⟨93, _⟩ => ⟨S_, .f32⟩
  | .hbm, ⟨94, _⟩ => ⟨S32, .f32⟩
  | .hbm, ⟨95, _⟩ => ⟨S_, .f32⟩
  | .hbm, ⟨96, _⟩ => ⟨S_, .f32⟩
  | .hbm, ⟨97, _⟩ => ⟨S96, .f32⟩
  | .hbm, ⟨98, _⟩ => ⟨S96, .f32⟩
  | .hbm, ⟨99, _⟩ => ⟨S128, .f32⟩
  | .hbm, ⟨100, _⟩ => ⟨S1x128, .f32⟩
  | .hbm, ⟨101, _⟩ => ⟨S16384x50x128, .f32⟩
  | .local _ .vmem, ⟨0, _⟩ => ⟨S50x256, .f32⟩
  | .local _ .vmem, ⟨1, _⟩ => ⟨S50x256, .f32⟩
  | .local _ .vmem, ⟨2, _⟩ => ⟨S48x128, .bf16⟩
  | .local _ .vmem, ⟨3, _⟩ => ⟨S1x48, .f32⟩
  | .local _ .vmem, ⟨4, _⟩ => ⟨S1x48, .f32⟩
  | .local _ .vmem, ⟨5, _⟩ => ⟨S1x128, .f32⟩
  | .local _ .vmem, ⟨6, _⟩ => ⟨S256x50x128, .f32⟩
  | .local _ .vmem, ⟨7, _⟩ => ⟨S256x50x128, .f32⟩
  | _, _ => ⟨S16384x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_0 : Ref sig .tc := ⟨.hbm, 9, rfl⟩
abbrev main_call0_v5 : Ref sig .tc := ⟨.hbm, 10, rfl⟩
abbrev main_call0_v6 : Ref sig .tc := ⟨.hbm, 11, rfl⟩
abbrev main_call0_cst : Ref sig .tc := ⟨.hbm, 12, rfl⟩
abbrev main_call0_v7 : Ref sig .tc := ⟨.hbm, 13, rfl⟩
abbrev main_call0_v8 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v9 : Ref sig .tc := ⟨.hbm, 18, rfl⟩
abbrev main_call0_c_2 : Ref sig .tc := ⟨.hbm, 19, rfl⟩
abbrev main_call0_v10 : Ref sig .tc := ⟨.hbm, 20, rfl⟩
abbrev main_call0_v11 : Ref sig .tc := ⟨.hbm, 21, rfl⟩
abbrev main_call0_cst_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst_4 : Ref sig .tc := ⟨.hbm, 25, rfl⟩
abbrev main_call0_v14 : Ref sig .tc := ⟨.hbm, 26, rfl⟩
abbrev main_call0_v15 : Ref sig .tc := ⟨.hbm, 27, rfl⟩
abbrev main_call0_cst_5 : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_cst_6 : Ref sig .tc := ⟨.hbm, 40, rfl⟩
abbrev main_call0_v25 : Ref sig .tc := ⟨.hbm, 41, rfl⟩
abbrev main_call0_cst_7 : Ref sig .tc := ⟨.hbm, 42, rfl⟩
abbrev main_call0_v26 : Ref sig .tc := ⟨.hbm, 43, rfl⟩
abbrev main_call0_v27 : Ref sig .tc := ⟨.hbm, 44, rfl⟩
abbrev main_call0_cst_8 : Ref sig .tc := ⟨.hbm, 45, rfl⟩
abbrev main_call0_v28 : Ref sig .tc := ⟨.hbm, 46, rfl⟩
abbrev main_call0_v29 : Ref sig .tc := ⟨.hbm, 47, rfl⟩
abbrev main_call0_cst_9 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_cst_10 : Ref sig .tc := ⟨.hbm, 59, rfl⟩
abbrev main_call0_v40 : Ref sig .tc := ⟨.hbm, 60, rfl⟩
abbrev main_call0_v41 : Ref sig .tc := ⟨.hbm, 61, rfl⟩
abbrev main_call0_c_11 : Ref sig .tc := ⟨.hbm, 62, rfl⟩
abbrev main_call0_v42 : Ref sig .tc := ⟨.hbm, 63, rfl⟩
abbrev main_call0_c_12 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_c_13 : Ref sig .tc := ⟨.hbm, 69, rfl⟩
abbrev main_call0_v47 : Ref sig .tc := ⟨.hbm, 70, rfl⟩
abbrev main_call0_c_14 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_c_15 : Ref sig .tc := ⟨.hbm, 77, rfl⟩
abbrev main_call0_v53 : Ref sig .tc := ⟨.hbm, 78, rfl⟩
abbrev main_call0_c_16 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_c_17 : Ref sig .tc := ⟨.hbm, 86, rfl⟩
abbrev main_call0_v60 : Ref sig .tc := ⟨.hbm, 87, rfl⟩
abbrev main_call0_c_18 : Ref sig .tc := ⟨.hbm, 88, rfl⟩
abbrev main_call0_v61 : Ref sig .tc := ⟨.hbm, 89, rfl⟩
abbrev main_call0_v62 : Ref sig .tc := ⟨.hbm, 90, rfl⟩
abbrev main_call0_v63 : Ref sig .tc := ⟨.hbm, 91, rfl⟩
abbrev main_call0_v64 : Ref sig .tc := ⟨.hbm, 92, rfl⟩
abbrev main_call0_cst_19 : Ref sig .tc := ⟨.hbm, 93, rfl⟩
abbrev main_call0_v65 : Ref sig .tc := ⟨.hbm, 94, rfl⟩
abbrev main_call0_cst_20 : Ref sig .tc := ⟨.hbm, 95, rfl⟩
abbrev main_call0_v66 : Ref sig .tc := ⟨.hbm, 96, rfl⟩
abbrev main_call0_v67 : Ref sig .tc := ⟨.hbm, 97, rfl⟩
abbrev main_call0_v68 : Ref sig .tc := ⟨.hbm, 98, rfl⟩
abbrev main_call0_v69 : Ref sig .tc := ⟨.hbm, 99, rfl⟩
abbrev main_call0_v70 : Ref sig .tc := ⟨.hbm, 100, rfl⟩
abbrev main_v0 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x50x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x50 : Shape := ⟨2, ![16384, 50]⟩
abbrev S24x32 : Shape := ⟨2, ![24, 32]⟩
abbrev S96 : Shape := ⟨1, ![96]⟩
abbrev S_ : Shape := ⟨0, ![]⟩
abbrev S16384x50x1 : Shape := ⟨3, ![16384, 50, 1]⟩
abbrev S1x96 : Shape := ⟨2, ![1, 96]⟩
abbrev S1x1x96 : Shape := ⟨3, ![1, 1, 96]⟩
abbrev S16384x50x96 : Shape := ⟨3, ![16384, 50, 96]⟩
abbrev S1 : Shape := ⟨1, ![1]⟩
abbrev S1x1x1 : Shape := ⟨3, ![1, 1, 1]⟩
abbrev S16384x50x32 : Shape := ⟨3, ![16384, 50, 32]⟩
abbrev S16384x50x128 : Shape := ⟨3, ![16384, 50, 128]⟩

abbrev nBuf : Space → Nat
  | .hbm => 64
  | .vmem => 0
  | .smem => 0
  | _ => 0

abbrev bufTy : (tb : Table) → Fin (tcTables nBuf tb) → BufTy
  | .hbm, ⟨0, _⟩ => ⟨S16384x50, .f32⟩
  | .hbm, ⟨1, _⟩ => ⟨S24x32, .f32⟩
  | .hbm, ⟨2, _⟩ => ⟨S96, .f32⟩
  | .hbm, ⟨3, _⟩ => ⟨S_, .f32⟩
  | .hbm, ⟨4, _⟩ => ⟨S16384x50, .f32⟩
  | .hbm, ⟨5, _⟩ => ⟨S16384x50, .f32⟩
  | .hbm, ⟨6, _⟩ => ⟨S16384x50, .f32⟩
  | .hbm, ⟨7, _⟩ => ⟨S_, .f32⟩
  | .hbm, ⟨8, _⟩ => ⟨S_, .f32⟩
  | .hbm, ⟨9, _⟩ => ⟨S16384x50, .f32⟩
  | .hbm, ⟨10, _⟩ => ⟨S16384x50, .f32⟩
  | .hbm, ⟨11, _⟩ => ⟨S16384x50, .f32⟩
  | .hbm, ⟨12, _⟩ => ⟨S16384x50, .i32⟩
  | .hbm, ⟨13, _⟩ => ⟨S_, .i32⟩
  | .hbm, ⟨14, _⟩ => ⟨S16384x50, .i32⟩
  | .hbm, ⟨15, _⟩ => ⟨S16384x50, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16384x50, .i32⟩
  | .hbm, ⟨20, _⟩ => ⟨S16384x50, .i32⟩
  | .hbm, ⟨21, _⟩ => ⟨S_, .i32⟩
  | .hbm, ⟨22, _⟩ => ⟨S16384x50, .i32⟩
  | .hbm, ⟨23, _⟩ => ⟨S16384x50, .i32⟩
  | .hbm, ⟨24, _⟩ => ⟨S_, .f32⟩
  | .hbm, ⟨25, _⟩ => ⟨S16384x50, .f32⟩
  | .hbm, ⟨26, _⟩ => ⟨S16384x50, .f32⟩
  | .hbm, ⟨27, _⟩ => ⟨S16384x50, .f32⟩
  | .hbm, ⟨28, _⟩ => ⟨S16384x50x1, .f32⟩
  | .hbm, ⟨29, _⟩ => ⟨S1x96, .f32⟩
  | .hbm, ⟨30, _⟩ => ⟨S1x1x96, .f32⟩
  | .hbm, ⟨31, _⟩ => ⟨S16384x50x96, .f32⟩
  | .hbm, ⟨32, _⟩ => ⟨S16384x50x96, .f32⟩
  | .hbm, ⟨33, _⟩ => ⟨S16384x50x96, .f32⟩
  | .hbm, ⟨34, _⟩ => ⟨S_, .f32⟩
  | .hbm, ⟨35, _⟩ => ⟨S16384x50x96, .f32⟩
  | .hbm, ⟨36, _⟩ => ⟨S16384x50x96, .f32⟩
  | .hbm, ⟨37, _⟩ => ⟨S16384x50x96, .f32⟩
  | .hbm, ⟨38, _⟩ => ⟨S16384x50x96, .f32⟩
  | .hbm, ⟨39, _⟩ => ⟨S16384x50x96, .f32⟩
  | .hbm, ⟨40, _⟩ => ⟨S_, .i32⟩
  | .hbm, ⟨41, _⟩ => ⟨S16384x50, .i32⟩
  | .hbm, ⟨42, _⟩ => ⟨S16384x50, .i1⟩
  | .hbm, ⟨43, _⟩ => ⟨S_, .i32⟩
  | .hbm, ⟨44, _⟩ => ⟨S16384x50, .i32⟩
  | .hbm, ⟨45, _⟩ => ⟨S16384x50, .i32⟩
  | .hbm, ⟨46, _⟩ => ⟨S16384x50, .i32⟩
  | .hbm, ⟨47, _⟩ => ⟨S16384x50x1, .i32⟩
  | .hbm, ⟨48, _⟩ => ⟨S1, .i32⟩
  | .hbm, ⟨49, _⟩ => ⟨S_, .i32⟩
  | .hbm, ⟨50, _⟩ => ⟨S16384x50x1, .i32⟩
  | .hbm, ⟨51, _⟩ => ⟨S16384x50x1, .i1⟩
  | .hbm, ⟨52, _⟩ => ⟨S1x1x1, .i32⟩
  | .hbm, ⟨53, _⟩ => ⟨S16384x50x1, .i32⟩
  | .hbm, ⟨54, _⟩ => ⟨S16384x50x1, .i1⟩
  | .hbm, ⟨55, _⟩ => ⟨S16384x50x1, .i1⟩
  | .hbm, ⟨56, _⟩ => ⟨S_, .i1⟩
  | .hbm, ⟨57, _⟩ => ⟨S16384x50, .i1⟩
  | .hbm, ⟨58, _⟩ => ⟨S16384x50x32, .f32⟩
  | .hbm, ⟨59, _⟩ => ⟨S16384x50x32, .i1⟩
  | .hbm, ⟨60, _⟩ => ⟨S_, .f32⟩
  | .hbm, ⟨61, _⟩ => ⟨S16384x50x32, .f32⟩
  | .hbm, ⟨62, _⟩ => ⟨S16384x50x32, .f32⟩
  | .hbm, ⟨63, _⟩ => ⟨S16384x50x128, .f32⟩
  | _, _ => ⟨S16384x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v25 : Ref sig .tc := ⟨.hbm, 62, rfl⟩
abbrev main_v26 : Ref sig .tc := ⟨.hbm, 63, rfl⟩

abbrev nD : Nat := 1
abbrev τ : Topo := Topo.v7x

variable {F : FTy → Type} [FloatOps F]
-- ==== Proof.Row.lean ====
/- One row of the kernel's block, at a variable column of the staged numbers, and its value at an index.
   The kernel's body is this row 256 times over; every later module reads it through `row_apply`. -/
module

public import proofs.«01_k».proof.Proof.Gen.KernelIdeal
public import Idealize.ShloMosaic.Lib.Pointwise

@[expose] public section

set_option maxRecDepth 16384

noncomputable section

namespace Cert.Proof.Row

open Idealize.ShloMosaic Idealize.ShloMosaic.TcCoe Idealize.SL.Sem
open Cert.KernelIdeal Cert.KernelIdeal.Gen Cert.KernelIdeal.Facts

/-- A column slice of the staged numbers lies within them. -/
theorem slicesCol (k : ℕ) (hk : k < 256) : S50x256.Slices ![0, k] S50x1 := by
  refine ⟨rfl, fun a => ?_⟩
  fin_cases a
  · show 0 + 50 ≤ 50; omega
  · show k + 1 ≤ 256; omega

/-- The shifted number of column `k`, spread over the 128 output lanes. -/
def spread (k : ℕ) (hk : k < 256) (y : FVec Ideal S50x256 .f32) : FVec Ideal S50x128 .f32 :=
  broadcastTo S50x128 (shapeCast S50x1 (shapeCast S50 (extractStridedSlice S50x1 ![0, k] y (slicesCol k hk))
    shapeCasts_S50x1_S50) shapeCasts_S50_S50x1) broadcasts_S50x1_S50x128

/-- The membership of a number in each of the 48 bins, as a float 0 or 1. -/
def member (v : FVec Ideal S50x128 .f32) (lo up : FVec Ideal S1x48 .f32) : FVec Ideal S50x48 .bf16 :=
  let u := extractStridedSlice S50x48 ![0, 0] v slices_S50x128_o0_0_S50x48
  truncf .bf16 (sitofp .f32 (extui 32 (andi (cmpf .oge u (broadcastTo S50x48 lo broadcasts_S1x48_S50x48))
    (cmpf .olt u (broadcastTo S50x48 up broadcasts_S1x48_S50x48))) natLt_1_32)) bitsLt_bf16_f32

/-- The table row that the membership picks, by a product with the 48-row table. -/
def pick (v : FVec Ideal S50x128 .f32) (tab : FVec Ideal S48x128 .bf16) (lo up : FVec Ideal S1x48 .f32) :
    FVec Ideal S50x128 .f32 :=
  matmul dot_S50x48_S48x128_S50x128_1_0_0_1_n_n none (member v lo up) tab (constant S50x128 .f32 0x00000000#32)

/-- What the body stores for one number column, from the spread column and the four small tables. -/
def rowOf (v : FVec Ideal S50x128 .f32) (tab : FVec Ideal S48x128 .bf16) (lo up : FVec Ideal S1x48 .f32)
    (qs : FVec Ideal S1x128 .f32) (lane : IVec S1x128 32) : FVec Ideal S1x50x128 .f32 :=
  let d := pick v tab lo up
  let e := subf (mulf (subf v (broadcast S50x128 (Scalar.ofBits .f32 0x2EDBE6FF#32))) d)
    (broadcastTo S50x128 qs broadcasts_S1x128_S50x128)
  shapeCast S1x50x128 (select
    (broadcastTo S50x128 (shapeCast S1x128 (cmpi .slt lane (broadcast S1x128 32#32)) shapeCasts_S1x128_S1x128)
      broadcasts_S1x128_S50x128) d
    (exp2 (subf (broadcast S50x128 (Scalar.ofBits .f32 0x00000000#32)) (mulf e e)))) shapeCasts_S50x128_S1x50x128

/-- Row `k` of the block. -/
def row (k : ℕ) (hk : k < 256) (y : FVec Ideal S50x256 .f32) (tab : FVec Ideal S48x128 .bf16)
    (lo up : FVec Ideal S1x48 .f32) (qs : FVec Ideal S1x128 .f32) (lane : IVec S1x128 32) :
    FVec Ideal S1x50x128 .f32 :=
  rowOf (spread k hk y) tab lo up qs lane

/-- Bin membership as an extended real. -/
def hot (y lo up : EReal) : EReal := if lo ≤ y ∧ y < up then 1 else 0

/-- The weighted sum over the bins. -/
def picked (y : EReal) (lo up tab : Fin 48 → EReal) : EReal := ∑ j : Fin 48, hot y (lo j) (up j) * tab j

/-- The value one output element takes: the shifted number `y`, the bins, its lane's table column, its lane's
    scaled quantile, and whether the lane is one of the first 32. -/
def cell (y : EReal) (lo up tab : Fin 48 → EReal) (q : EReal) (first : Prop) [Decidable first] : EReal :=
  if first then picked y lo up tab
  else Ideal.exp2 (0 - ((y - Ideal.ofBits .f32 0x2EDBE6FF#32) * picked y lo up tab - q)
    * ((y - Ideal.ofBits .f32 0x2EDBE6FF#32) * picked y lo up tab - q))

/-- The membership word, widened and converted, is `hot`. -/
theorem hot_word (y lo up : EReal) :
    (FloatOps.sitofp (F := Ideal) .f32 (BitVec.setWidth 32
      (IntOp.andi (BitVec.ofBool (decide (lo ≤ y))) (BitVec.ofBool (decide (y < up))))) : EReal) = hot y lo up := by
  unfold hot
  show (((BitVec.setWidth 32 (IntOp.andi (BitVec.ofBool (decide (lo ≤ y))) (BitVec.ofBool (decide (y < up))))).toInt : ℝ) : EReal) = _
  by_cases h1 : lo ≤ y <;> by_cases h2 : y < up <;> simp [h1, h2, IntOp.andi]

/-- The lane comparison decides whether the lane is one of the first 32. -/
theorem lane_word (d : Fin 128) (a b : EReal) :
    Scalar.select (IntOp.cmpi .slt (BitVec.ofNat 32 (d : ℕ)) 32#32) a b = if (d : ℕ) < 32 then a else b := by
  have hd := d.isLt
  unfold Scalar.select
  have : IntOp.cmpi .slt (BitVec.ofNat 32 (d : ℕ)) 32#32 = BitVec.ofBool (decide ((d : ℕ) < 32)) := by
    revert d; decide
  rw [this]
  by_cases h : (d : ℕ) < 32 <;> simp [h]

theorem row_apply (k : ℕ) (hk : k < 256) (y : FVec Ideal S50x256 .f32) (tab : FVec Ideal S48x128 .bf16)
    (lo up : FVec Ideal S1x48 .f32) (qs : FVec Ideal S1x128 .f32) (o : Fin 1) (s : Fin 50) (d : Fin 128) :
    row k hk y tab lo up qs (iota .tc S1x128 32 [1] iota_S1x128_d1_w32) (ix3 o s d)
      = cell (y (ix2 s ⟨k, hk⟩)) (fun j => lo (ix2 0 j)) (fun j => up (ix2 0 j)) (fun j => tab (ix2 j d)) (qs (ix2 0 d))
        ((d : ℕ) < 32) := by
  pointwise [row, rowOf, pick, member, spread]
  simp only [hot_word]
  rw [lane_word]
  rfl

end Cert.Proof.Row

end
-- ==== Proof.Block.lean ====
/- The kernel's output block at an index: its 256 stores are the 256 rows of `Row.row`. -/
module

public import proofs.«01_k».proof.Proof.Row
public import proofs.«01_k».proof.Proof.Gen.KernelIdeal.Value
public import Idealize.ShloMosaic.Lib.Pipeline.ValueKit

@[expose] public section

set_option maxRecDepth 16384

noncomputable section

namespace Cert.Proof.Block

open Idealize.ShloMosaic Idealize.ShloMosaic.TcCoe Idealize.SL.Sem
open Cert.KernelIdeal Cert.KernelIdeal.Gen Cert.KernelIdeal.Facts Cert.Proof.Row

/-- The lane numbers. -/
abbrev lanes : IVec S1x128 32 := iota .tc S1x128 32 [1] iota_S1x128_d1_w32

/-- The output block at an index, as one function of the five staged blocks. -/
def blockVal (x0 : FVec Ideal S50x256 .f32) (x1 : FVec Ideal S48x128 .bf16) (x2 x3 : FVec Ideal S1x48 .f32)
    (x4 : FVec Ideal S1x128 .f32) (y : S256x50x128.Idx) : EReal :=
  cell (x0 (ix2 (y 1) (y 0)) + Ideal.ofBits .f32 0x2EDBE6FF#32) (fun j => x2 (ix2 0 j)) (fun j => x3 (ix2 0 j))
    (fun j => x1 (ix2 j (y 2))) (x4 (ix2 0 (y 2))) (((y 2 : Fin 128) : ℕ) < 32)

theorem inbRow (k : ℕ) (hk : k < 256) : ∀ a, (![k, 0, 0] : Fin 3 → ℕ) a + S1x50x128.size a ≤ S256x50x128.size a := by
  intro a
  fin_cases a
  · show k + 1 ≤ 256; omega
  · show 0 + 50 ≤ 50; omega
  · show 0 + 128 ≤ 128; omega

/-- Where row `k` is stored. -/
abbrev rowRect (k : ℕ) (hk : k < 256) : Rect S256x50x128 :=
  Rect.unit (s := S256x50x128) ![k, 0, 0] S1x50x128.size (inbRow k hk)

/-- The shifted block of numbers the rows slice. -/
def shifted (x0 : FVec Ideal S50x256 .f32) : FVec Ideal S50x256 .f32 :=
  addf x0 (broadcast S50x256 (Scalar.ofBits .f32 0x2EDBE6FF#32))

/-- Row `k` at a local index is the block's function at the index the row's rectangle names. -/
theorem row_eq (k : ℕ) (hk : k < 256) (x0 : FVec Ideal S50x256 .f32) (x1 : FVec Ideal S48x128 .bf16)
    (x2 x3 : FVec Ideal S1x48 .f32) (x4 : FVec Ideal S1x128 .f32) (x : (rowRect k hk).shape.Idx) :
    row k hk (shifted x0) x1 x2 x3 x4 lanes x = blockVal x0 x1 x2 x3 x4 ((rowRect k hk).emb x) := by
  have e : x = (ix3 (x 0 : Fin 1) (x 1 : Fin 50) (x 2 : Fin 128) : S1x50x128.Idx) := eq_ix3 x
  rw [e]
  refine (row_apply k hk (shifted x0) x1 x2 x3 x4 _ _ _).trans ?_
  have h0 : (((rowRect k hk).emb (ix3 (x 0 : Fin 1) (x 1 : Fin 50) (x 2 : Fin 128) : S1x50x128.Idx)) : S256x50x128.Idx)
      = ix3 (⟨k, hk⟩ : Fin 256) (x 1 : Fin 50) (x 2 : Fin 128) := by
    funext a
    fin_cases a
    · apply Fin.ext
      have : ((x 0 : Fin 1) : ℕ) = 0 := Nat.lt_one_iff.1 (x 0 : Fin 1).isLt
      show k + 1 * ((x 0 : Fin 1) : ℕ) = k
      omega
    · apply Fin.ext; show 0 + 1 * ((x 1 : Fin 50) : ℕ) = _; simp
    · apply Fin.ext; show 0 + 1 * ((x 2 : Fin 128) : ℕ) = _; simp
  rw [h0]
  rfl

/-- A stored piece that is a row of the block. -/
def IsRow (v3 : FVec Ideal S50x256 .f32) (v5 : FVec Ideal S48x128 .bf16) (v7 v9 : FVec Ideal S1x48 .f32)
    (v11 : FVec Ideal S1x128 .f32) (v12 : IVec S1x128 32) (p : View.Piece (Elt Ideal) S256x50x128 .f32) : Prop :=
  ∃ (k : ℕ) (hk : k < 256), p = ⟨rowRect k hk, row k hk v3 v5 v7 v9 v11 v12⟩

/-- A list of pieces all of which are rows. -/
inductive Rows (v3 : FVec Ideal S50x256 .f32) (v5 : FVec Ideal S48x128 .bf16) (v7 v9 : FVec Ideal S1x48 .f32)
    (v11 : FVec Ideal S1x128 .f32) (v12 : IVec S1x128 32) : List (View.Piece (Elt Ideal) S256x50x128 .f32) → Prop
  | nil : Rows v3 v5 v7 v9 v11 v12 []
  | cons (k : ℕ) (hk : k < 256) (L : List (View.Piece (Elt Ideal) S256x50x128 .f32))
      (w : (rowRect k hk).shape.Idx → Elt Ideal .f32) (hw : w = row k hk v3 v5 v7 v9 v11 v12)
      (h : Rows v3 v5 v7 v9 v11 v12 L) :
      Rows v3 v5 v7 v9 v11 v12 (⟨rowRect k hk, w⟩ :: L)

theorem Rows.isRow {v3 : FVec Ideal S50x256 .f32} {v5 : FVec Ideal S48x128 .bf16} {v7 v9 : FVec Ideal S1x48 .f32}
    {v11 : FVec Ideal S1x128 .f32} {v12 : IVec S1x128 32} {L : List (View.Piece (Elt Ideal) S256x50x128 .f32)}
    (h : Rows v3 v5 v7 v9 v11 v12 L) : ∀ p ∈ L, IsRow v3 v5 v7 v9 v11 v12 p := by
  induction h with
  | nil => intro p hp; cases hp
  | cons k hk L w hw _ ih =>
    intro p hp
    rcases List.mem_cons.mp hp with rfl | hp
    · exact ⟨k, hk, by rw [hw]⟩
    · exact ih p hp

theorem loaded0 (x0 : FVec Ideal S50x256 .f32) (x1 : FVec Ideal S48x128 .bf16) (x2 x3 : FVec Ideal S1x48 .f32)
    (x4 : FVec Ideal S1x128 .f32) :
    k0_pay675 (F := Ideal) x0 x1 x2 x3 x4 = shifted x0 ∧ k0_pay676 (F := Ideal) x0 x1 x2 x3 x4 = x1 ∧ k0_pay677 (F := Ideal) x0 x1 x2 x3 x4 = x2
      ∧ k0_pay678 (F := Ideal) x0 x1 x2 x3 x4 = x3 ∧ k0_pay679 (F := Ideal) x0 x1 x2 x3 x4 = x4 := by
  have z : (![0, 0] : Fin 2 → ℕ) = fun _ => 0 := by decide
  refine ⟨?_, ?_, ?_, ?_, ?_⟩ <;> funext j
  · unfold k0_pay675 k0_pay2 shifted
    rw [View.ld_unit_zero z]
    pointwise
  · unfold k0_pay676 k0_pay3; rw [View.ld_unit_zero z]; pointwise
  · unfold k0_pay677 k0_pay4; rw [View.ld_unit_zero z]; pointwise
  · unfold k0_pay678 k0_pay5; rw [View.ld_unit_zero z]; pointwise
  · unfold k0_pay679 k0_pay6; rw [View.ld_unit_zero z]; pointwise

theorem out_apply (x0 : FVec Ideal S50x256 .f32) (x1 : FVec Ideal S48x128 .bf16) (x2 x3 : FVec Ideal S1x48 .f32)
    (x4 : FVec Ideal S1x128 .f32) (y : S256x50x128.Idx) :
    out0_5 (F := Ideal) x0 x1 x2 x3 x4 y = blockVal x0 x1 x2 x3 x4 y := by
  obtain ⟨e0, e1, e2, e3, e4⟩ := loaded0 x0 x1 x2 x3 x4
  unfold out0_5
  refine View.canon_apply_of_pieces (Val := Elt Ideal) (e := .f32) (blockVal x0 x1 x2 x3 x4) _ ?_ y ?_
  swap
  · exact View.cover_of_tiled_head _ _ _ (by rfl) y
  have hr : ∀ p, IsRow (k0_pay675 (F := Ideal) x0 x1 x2 x3 x4) (k0_pay676 (F := Ideal) x0 x1 x2 x3 x4)
      (k0_pay677 (F := Ideal) x0 x1 x2 x3 x4) (k0_pay678 (F := Ideal) x0 x1 x2 x3 x4)
      (k0_pay679 (F := Ideal) x0 x1 x2 x3 x4) (k0_pay674 (F := Ideal) x0 x1 x2 x3 x4) p →
      ∀ x : p.1.shape.Idx, p.2 x = blockVal x0 x1 x2 x3 x4 (p.1.emb x) := by
    rintro p ⟨k, hk, rfl⟩ x
    rw [e0, e1, e2, e3, e4]
    exact row_eq k hk x0 x1 x2 x3 x4 x
  refine fun p hp => hr p (Rows.isRow ?_ p hp)
  clear hr hp p e0 e1 e2 e3 e4
  repeat' (refine Rows.cons _ (by decide) _ _ rfl ?_)
  exact Rows.nil

end Cert.Proof.Block

end
-- ==== Proof.Decade.lean ====
/- The arithmetic of the value claim, free of programs: decades of a positive real, the one bin of the kernel's
   table that holds it, and the equality of the two spellings of the Gaussian at extended-real quantiles. -/
module

public import proofs.«01_k».proof.Proof.Row

@[expose] public section

noncomputable section

namespace Cert.Proof.Decade

open Idealize.ShloMosaic Cert.Proof.Row

/-- The decade of a positive real. -/
def decade (y : ℝ) : ℤ := ⌊Real.log y / Real.log 10⌋

/-- The power of ten with an integer exponent, as both programs compute it. -/
def ten (n : ℤ) : ℝ := Real.rpow 10 (n : ℝ)

theorem ten_pos (n : ℤ) : 0 < ten n := Real.rpow_pos_of_pos (by norm_num) _

theorem ten_eq (n : ℤ) : ten n = (10 : ℝ) ^ n := Real.rpow_intCast 10 n

theorem log_ten_pos : 0 < Real.log 10 := Real.log_pos (by norm_num)

theorem ten_le_iff {y : ℝ} (hy : 0 < y) (n : ℤ) : ten n ≤ y ↔ n ≤ decade y := by
  rw [decade, Int.le_floor, le_div_iff₀ log_ten_pos, Real.le_log_iff_exp_le hy, ten]
  show Real.rpow 10 n ≤ y ↔ _
  rw [Real.rpow_eq_pow, Real.rpow_def_of_pos (by norm_num : (0:ℝ) < 10), mul_comm]

theorem lt_ten_iff {y : ℝ} (hy : 0 < y) (n : ℤ) : y < ten n ↔ decade y < n := by
  rw [← not_le, ten_le_iff hy, not_le]

/-- The decade clamped to the 24 bins the table has. -/
def slot (y : ℝ) : Fin 24 := ⟨(max 0 (min 23 (decade y + 8))).toNat, by omega⟩

theorem slot_val (y : ℝ) : ((slot y : ℕ) : ℤ) = max 0 (min 23 (decade y + 8)) := by
  show (((max 0 (min 23 (decade y + 8))).toNat : ℕ) : ℤ) = _
  omega

/-- Lower bound of bin `j`: the first bin starts at 0. -/
def binLo (j : ℕ) : EReal := if j = 0 then 0 else (ten ((j : ℤ) - 8) : EReal)

/-- Upper bound of bin `j`: the last bin has none. -/
def binUp (j : ℕ) : EReal := if j = 23 then ⊤ else (ten ((j : ℤ) - 7) : EReal)

/-- A positive number is in exactly one bin, its clamped decade's. -/
theorem hot_bin {y : ℝ} (hy : 0 < y) (j : Fin 24) :
    hot (y : EReal) (binLo j) (binUp j) = if j = slot y then 1 else 0 := by
  have hs := slot_val y
  have hlo : binLo j ≤ (y : EReal) ↔ (j : ℕ) = 0 ∨ (j : ℤ) - 8 ≤ decade y := by
    unfold binLo
    split_ifs with h
    · simp only [h, true_or, iff_true]; exact_mod_cast hy.le
    · simp only [h, false_or, EReal.coe_le_coe_iff]; exact ten_le_iff hy _
  have hup : (y : EReal) < binUp j ↔ (j : ℕ) = 23 ∨ decade y < (j : ℤ) - 7 := by
    unfold binUp
    split_ifs with h
    · simp only [h, true_or, iff_true]; exact EReal.coe_lt_top y
    · simp only [h, false_or, EReal.coe_lt_coe_iff]; exact lt_ten_iff hy _
  have hj : j = slot y ↔ (j : ℕ) = (slot y : ℕ) := Fin.ext_iff
  have := j.isLt
  unfold hot
  simp only [hlo, hup, hj]
  congr 1
  apply propext
  omega

/-- The weighted sum over the doubled table: the two halves' entries at the number's bin. -/
theorem picked_bin {y : ℝ} (hy : 0 < y) (lo up tab : Fin 48 → EReal)
    (hlo : ∀ j : Fin 48, lo j = binLo ((j : ℕ) % 24)) (hup : ∀ j : Fin 48, up j = binUp ((j : ℕ) % 24)) :
    picked (y : EReal) lo up tab = tab ⟨slot y, by omega⟩ + tab ⟨24 + (slot y : ℕ), by omega⟩ := by
  unfold picked
  have key : ∀ (j : Fin 48) (i : Fin 24), (j : ℕ) % 24 = i → hot (y : EReal) (lo j) (up j) = if i = slot y then 1 else 0 := by
    intro j i hji
    rw [hlo, hup, hji, hot_bin hy]
  rw [show (∑ j : Fin 48, hot (y : EReal) (lo j) (up j) * tab j)
      = (∑ i : Fin 24, hot (y : EReal) (lo (Fin.castAdd 24 i)) (up (Fin.castAdd 24 i)) * tab (Fin.castAdd 24 i))
        + ∑ i : Fin 24, hot (y : EReal) (lo (Fin.natAdd 24 i)) (up (Fin.natAdd 24 i)) * tab (Fin.natAdd 24 i)
    from Fin.sum_univ_add (a := 24) (b := 24) (fun j : Fin (24 + 24) => hot (y : EReal) (lo j) (up j) * tab j)]
  congr 1
  · rw [Finset.sum_eq_single (slot y)]
    · rw [key _ (slot y) (by show (slot y : ℕ) % 24 = _; omega), if_pos rfl, one_mul]; rfl
    · intro i _ hi
      rw [key _ i (by show (i : ℕ) % 24 = _; omega), if_neg hi, zero_mul]
    · intro h; exact absurd (Finset.mem_univ _) h
  · rw [Finset.sum_eq_single (slot y)]
    · rw [key _ (slot y) (by show (24 + (slot y : ℕ)) % 24 = _; omega), if_pos rfl, one_mul]; rfl
    · intro i _ hi
      rw [key _ i (by show (24 + (i : ℕ)) % 24 = _; omega), if_neg hi, zero_mul]
    · intro h; exact absurd (Finset.mem_univ _) h

/-- The scale the kernel folds into its tables: twice the square root of `log₂ e`. -/
def scale : ℝ := 2 * Real.sqrt (1 / Real.log 2)

theorem scale_pos : 0 < scale :=
  mul_pos two_pos (Real.sqrt_pos.2 (one_div_pos.2 (Real.log_pos one_lt_two)))

theorem scale_sq : scale * scale * Real.log 2 = 4 := by
  have h : 0 < Real.log 2 := Real.log_pos one_lt_two
  have hs : Real.sqrt (1 / Real.log 2) * Real.sqrt (1 / Real.log 2) = 1 / Real.log 2 :=
    Real.mul_self_sqrt (one_div_pos.2 h).le
  calc scale * scale * Real.log 2
      = 4 * (Real.sqrt (1 / Real.log 2) * Real.sqrt (1 / Real.log 2)) * Real.log 2 := by unfold scale; ring
    _ = 4 := by rw [hs]; field_simp

/-- The kernel's base-two Gaussian of scaled quantities is the reference's Gaussian, at every quantile, the
    infinite ones included (both are then 0). -/
theorem gauss (a : ℝ) (q : EReal) :
    Ideal.exp2 (0 - (((scale * a : ℝ) : EReal) - (scale : EReal) * q) * (((scale * a : ℝ) : EReal) - (scale : EReal) * q))
      = Ideal.exp (-(Ideal.div ((a : EReal) - q) ((1 / 2 : ℝ) : EReal) * Ideal.div ((a : EReal) - q) ((1 / 2 : ℝ) : EReal))) := by
  rw [Ideal.div_coe (by norm_num : (1 / 2 : ℝ) ≠ 0)]
  induction q using EReal.rec with
  | bot =>
    have h2 : (0 : ℝ) < 1 / (1 / 2) := by norm_num
    rw [EReal.coe_mul_bot_of_pos scale_pos, EReal.sub_bot (EReal.coe_ne_bot _), EReal.sub_bot (EReal.coe_ne_bot _),
      EReal.top_mul_coe_of_pos h2, EReal.top_mul_top, EReal.neg_top, Ideal.exp_bot]
    rfl
  | top =>
    have h2 : (0 : ℝ) < 1 / (1 / 2) := by norm_num
    rw [EReal.coe_mul_top_of_pos scale_pos, EReal.sub_top, EReal.sub_top, EReal.bot_mul_coe_of_pos h2,
      EReal.bot_mul_bot, EReal.neg_top, Ideal.exp_bot]
    rfl
  | coe q =>
    have e1 : (0 : EReal) - (((scale * a : ℝ) : EReal) - (scale : EReal) * (q : EReal))
        * (((scale * a : ℝ) : EReal) - (scale : EReal) * (q : EReal))
        = ((-((scale * (a - q)) * (scale * (a - q))) : ℝ) : EReal) := by
      rw [← EReal.coe_mul, ← EReal.coe_sub, ← EReal.coe_mul, ← EReal.coe_zero, ← EReal.coe_sub]
      congr 1; ring
    have e2 : -(((a : EReal) - (q : EReal)) * ((1 / (1 / 2) : ℝ) : EReal) * (((a : EReal) - (q : EReal)) * ((1 / (1 / 2) : ℝ) : EReal)))
        = ((-(4 * ((a - q) * (a - q))) : ℝ) : EReal) := by
      rw [← EReal.coe_sub, ← EReal.coe_mul, ← EReal.coe_mul, ← EReal.coe_neg]
      congr 1; ring
    rw [e1, e2, Ideal.exp_coe, Ideal.exp2_coe, EReal.coe_eq_coe_iff, Real.rpow_eq_pow,
      Real.rpow_def_of_pos two_pos]
    congr 1
    calc Real.log 2 * -(scale * (a - q) * (scale * (a - q)))
        = -((scale * scale * Real.log 2) * ((a - q) * (a - q))) := by ring
      _ = _ := by rw [scale_sq]

/-- The value of the offset `1e-10` both programs add to a number: its word's rational. -/
def eps : ℝ := 14411519 / 2 ^ 57

theorem ofBits_eps : Ideal.ofBits .f32 0x2EDBE6FF#32 = (eps : EReal) := by
  simp [Ideal.ofBits, Ideal.ieee, eps, -EReal.coe_mul]; norm_num

theorem eps_pos : 0 < eps := by unfold eps; norm_num

/-- The least nonzero number the precondition admits: the word of `1e-8`. -/
def least : ℝ := 11258999 / 2 ^ 50

theorem ofBits_least : Ideal.ofBits .f32 0x322BCC77#32 = (least : EReal) := by
  simp [Ideal.ofBits, Ideal.ieee, least, -EReal.coe_mul]; norm_num

/-- The bound the precondition puts on the numbers: the word of `9.9e15`. -/
def most : ℝ := 9220093 * 2 ^ 30

theorem ofBits_most : Ideal.ofBits .f32 0x5A0CAFFD#32 = (most : EReal) := by
  simp [Ideal.ofBits, Ideal.ieee, most, -EReal.coe_mul]

/-- What the precondition says of one number. -/
def Admitted (x : ℝ) : Prop := x = 0 ∨ (least ≤ x ∧ x < most)

theorem Admitted.nonneg {x : ℝ} (h : Admitted x) : 0 ≤ x := by
  rcases h with rfl | ⟨h, _⟩
  · exact le_rfl
  · exact le_trans (by unfold least; norm_num) h

theorem Admitted.pos {x : ℝ} (h : Admitted x) : 0 < x + eps := add_pos_of_nonneg_of_pos h.nonneg eps_pos

/-- An admitted number is zero, or its decade is one of the table's 24. -/
theorem Admitted.decade {x : ℝ} (h : Admitted x) :
    x = 0 ∨ Decade.decade (x + eps) = ((slot (x + eps) : ℕ) : ℤ) - 8 := by
  have hp := h.pos
  rcases h with h | ⟨h1, h2⟩
  · exact Or.inl h
  · refine Or.inr ?_
    have a : -8 ≤ Decade.decade (x + eps) := by
      rw [← ten_le_iff hp, ten_eq]
      refine le_trans ?_ (add_le_add_left h1 eps)
      unfold least eps; norm_num
    have b : Decade.decade (x + eps) < 16 := by
      rw [← lt_ten_iff hp, ten_eq]
      refine lt_of_lt_of_le (add_lt_add_left h2 eps) ?_
      unfold most eps; norm_num
    have := slot_val (x + eps)
    omega

/-- A difference of a real with itself is zero, and changes nothing added to. -/
theorem coe_add_sub_self (r : ℝ) : (r : EReal) + ((r : EReal) - (r : EReal)) = r := by
  rw [← EReal.coe_sub, ← EReal.coe_add]; congr 1; ring

variable {x : ℝ} (lo up tab : Fin 48 → EReal)

/-- One of the first 32 lanes: the table entry of the number's bin, stored in two halves. -/
theorem cell_first (hx : Admitted x) (hlo : ∀ j : Fin 48, lo j = binLo ((j : ℕ) % 24))
    (hup : ∀ j : Fin 48, up j = binUp ((j : ℕ) % 24)) (q : EReal) (first : Prop) [Decidable first] (hf : first) (r : ℝ)
    (h1 : tab ⟨slot (x + eps), by omega⟩ = r) (h2 : tab ⟨24 + (slot (x + eps) : ℕ), by omega⟩ = (r : EReal) - r) :
    cell ((x : EReal) + Ideal.ofBits .f32 0x2EDBE6FF#32) lo up tab q first = r := by
  rw [cell, if_pos hf, ofBits_eps, ← EReal.coe_add, picked_bin hx.pos lo up tab hlo hup, h1, h2, coe_add_sub_self]

/-- One of the last 96 lanes: the reference's Gaussian of the mantissa and the lane's quantile. -/
theorem cell_rest (hx : Admitted x) (hlo : ∀ j : Fin 48, lo j = binLo ((j : ℕ) % 24))
    (hup : ∀ j : Fin 48, up j = binUp ((j : ℕ) % 24)) (q : EReal) (first : Prop) [Decidable first] (hf : ¬ first) (r : ℝ)
    (hr : r = scale * ten (8 - ((slot (x + eps) : ℕ) : ℤ)))
    (h1 : tab ⟨slot (x + eps), by omega⟩ = r) (h2 : tab ⟨24 + (slot (x + eps) : ℕ), by omega⟩ = (r : EReal) - r) :
    cell ((x : EReal) + Ideal.ofBits .f32 0x2EDBE6FF#32) lo up tab ((scale : EReal) * q) first
      = Ideal.exp (-(Ideal.div (Ideal.div (x : EReal) (ten (Decade.decade (x + eps)) : EReal) - q) ((1 / 2 : ℝ) : EReal)
          * Ideal.div (Ideal.div (x : EReal) (ten (Decade.decade (x + eps)) : EReal) - q) ((1 / 2 : ℝ) : EReal))) := by
  have hm : ((x + eps - eps) * r : ℝ) = scale * (x * (1 / ten (Decade.decade (x + eps)))) := by
    rcases hx.decade with h | h
    · subst h; simp
    · rw [hr, h, ten_eq, ten_eq, one_div, ← zpow_neg, neg_sub]; ring
  rw [cell, if_neg hf, ofBits_eps, ← EReal.coe_add, picked_bin hx.pos lo up tab hlo hup, h1, h2, coe_add_sub_self,
    ← EReal.coe_sub, ← EReal.coe_mul, hm, gauss, Ideal.div_coe (ten_pos _).ne', ← EReal.coe_mul]

end Cert.Proof.Decade

end
-- ==== Proof.Tile.lean ====
/- A host scatter that writes one rectangular tile of a matrix at a two-word offset, read at an element. -/
module

public import Idealize.ShloMosaic.Lib.Pointwise
public import Idealize.ShloMosaic.Lib.Routing.OpsSet
public import Idealize.ShloMosaic.Lib.Routing.OpsPair

@[expose] public section

noncomputable section

namespace Cert.Proof.Tile

open Idealize.ShloMosaic

variable {α : Type} {R C p q : ℕ}

/-- The dimension numbers of a scatter of one tile: both axes are window axes, the two words are the tile's offsets. -/
structure OneTile (d : ScatterDims ⟨2, ![R, C]⟩ ⟨1, ![2]⟩ ⟨2, ![p, q]⟩) : Prop where
  windows : d.updateWindowDims = [0, 1]
  inserted : d.insertedWindowDims = []
  starts : d.scatterDimsToOperandDims = [0, 1]
  vector : d.indexVectorDim = 0

theorem start_eq {d : ScatterDims ⟨2, ![R, C]⟩ ⟨1, ![2]⟩ ⟨2, ![p, q]⟩} (hd : OneTile d) (k : (⟨2, ![p, q]⟩ : Shape).Idx)
    (idx : IVec ⟨1, ![2]⟩ 32) : d.start k idx 0 = (idx (ix1 (0 : Fin 2))).toInt ∧ d.start k idx 1 = (idx (ix1 (1 : Fin 2))).toInt := by
  obtain ⟨uw, iw, sd, iv, wf⟩ := d
  obtain ⟨h1, h2, h3, h4⟩ := hd
  dsimp only at h1 h2 h3 h4
  subst h1 h2 h3 h4
  constructor
  · unfold ScatterDims.start
    rw [dif_pos (by simp)]
    congr 2
    funext b
    match b with
    | ⟨0, _⟩ => rfl
  · unfold ScatterDims.start
    rw [dif_pos (by simp)]
    congr 2
    funext b
    match b with
    | ⟨0, _⟩ => rfl

theorem window_eq {d : ScatterDims ⟨2, ![R, C]⟩ ⟨1, ![2]⟩ ⟨2, ![p, q]⟩} (hd : OneTile d) (k : (⟨2, ![p, q]⟩ : Shape).Idx) :
    d.window k 0 = (k 0 : Fin p).val ∧ d.window k 1 = (k 1 : Fin q).val := by
  obtain ⟨uw, iw, sd, iv, wf⟩ := d
  obtain ⟨h1, h2, h3, h4⟩ := hd
  dsimp only at h1 h2 h3 h4
  subst h1 h2 h3 h4
  exact ⟨rfl, rfl⟩

/-- The element the scatter leaves at `(r, c)`: the tile's, inside the tile; the matrix's own, outside. -/
theorem set_tile {d : ScatterDims ⟨2, ![R, C]⟩ ⟨1, ![2]⟩ ⟨2, ![p, q]⟩} (hd : OneTile d)
    (x : (⟨2, ![R, C]⟩ : Shape).Idx → α) (idx : IVec ⟨1, ![2]⟩ 32) (u : (⟨2, ![p, q]⟩ : Shape).Idx → α) (a b : ℕ)
    (ha : (idx (ix1 (0 : Fin 2))).toInt = (a : ℤ)) (hb : (idx (ix1 (1 : Fin 2))).toInt = (b : ℤ)) (r : Fin R) (c : Fin C) :
    Host.scatter d (fun _ v => v) x idx u (ix2 r c)
      = if h : (a ≤ r.val ∧ r.val < a + p) ∧ (b ≤ c.val ∧ c.val < b + q) then
          u (ix2 (⟨r.val - a, by omega⟩ : Fin p) (⟨c.val - b, by omega⟩ : Fin q))
        else x (ix2 r c) := by
  have lands : ∀ k : (⟨2, ![p, q]⟩ : Shape).Idx, d.resultIdx? k idx = some (ix2 r c)
      ↔ a + (k 0 : Fin p).val = r.val ∧ b + (k 1 : Fin q).val = c.val := by
    intro k
    refine (Routing.resultIdx?_ix2 (R := R) (C := C) d k idx r c).trans ?_
    rw [(start_eq hd k idx).1, (start_eq hd k idx).2, (window_eq hd k).1, (window_eq hd k).2, ha, hb]
    omega
  split_ifs with h
  · refine Routing.scatter_set_hit d x idx u _ _ ?_ (ix2 (⟨r.val - a, by omega⟩ : Fin p) (⟨c.val - b, by omega⟩ : Fin q)) ?_
    · intro k hk
      have := (lands k).1 hk
      rw [eq_ix2 k]
      congr 2
      · apply Fin.ext; show (k 0 : Fin p).val = r.val - a; omega
      · apply Fin.ext; show (k 1 : Fin q).val = c.val - b; omega
    · rw [lands]
      show a + (r.val - a) = r.val ∧ b + (c.val - b) = c.val
      omega
  · refine Routing.scatter_set_miss d x idx u _ ?_
    intro k hk
    have := (lands k).1 hk
    have h0 : (k 0 : Fin p).val < p := (k 0 : Fin p).isLt
    have h1 : (k 1 : Fin q).val < q := (k 1 : Fin q).isLt
    omega

end Cert.Proof.Tile

end
-- ==== Proof.Tables.lean ====
/- The five arrays the kernel's region stages, as the host prepares them, read at an index. -/
module

public import proofs.«01_k».proof.Proof.Decade
public import proofs.«01_k».proof.Proof.Gen.KernelIdeal.Value
public import Idealize.ShloMosaic.Lib.Pipeline.ValueKit
public import proofs.«01_k».proof.Proof.Tile

@[expose] public section

set_option maxRecDepth 16384

noncomputable section

namespace Cert.Proof.Tables

open Idealize.ShloMosaic Idealize.ShloMosaic.TcCoe Idealize.SL.Sem
open Cert.KernelIdeal Cert.KernelIdeal.Gen Cert.KernelIdeal.Facts Cert.Proof.Row Cert.Proof.Decade

/-- The 24 exponents, -8 to 15. -/
def exps : FVec Ideal S24 .f32 :=
  sitofp .f32 (addi (iotaInDim S24 32 0) (broadcastInDim S24 ![] bcast_S_S24 (constantI S_ 32 4294967288#32)))

/-- Ten, at every bin. -/
def tens : FVec Ideal S24 .f32 := broadcastInDim S24 ![] bcast_S_S24 (constant S_ .f32 0x41200000#32)

/-- Where the bin number is `n`. -/
def binIs (n : BitVec 32) : IVec S24 1 :=
  cmpi .eq (iotaInDim S24 32 0) (broadcastInDim S24 ![] bcast_S_S24 (constantI S_ 32 n))

/-- A 24-vector twice over, as one row of 48. -/
def twice (v : FVec Ideal S24 .f32) : FVec Ideal S1x48 .f32 :=
  shapeCast S1x48 (shapeCast S48 (broadcastInDim S2x24 ![0, 1] bcast_S1x24_S2x24_0_1
    (shapeCast S1x24 v shapeCasts_S24_S1x24)) shapeCasts_S2x24_S48) shapeCasts_S48_S1x48

/-- The bins' lower bounds. -/
def lower : FVec Ideal S1x48 .f32 :=
  twice (select (binIs 0#32) (broadcastInDim S24 ![] bcast_S_S24 (constant S_ .f32 0x00000000#32)) (Host.powf tens exps))

/-- The bins' upper bounds. -/
def upper : FVec Ideal S1x48 .f32 :=
  twice (select (binIs 23#32) (broadcastInDim S24 ![] bcast_S_S24 (constant S_ .f32 0x7F800000#32))
    (Host.powf tens (addf exps (broadcastInDim S24 ![] bcast_S_S24 (constant S_ .f32 0x3F800000#32)))))

/-- The square root of `log₂ e`. -/
def root : FVec Ideal S_ .f32 :=
  Host.sqrt (Host.divf (constant S_ .f32 0x3F800000#32) (Host.log (constant S_ .f32 0x40000000#32)))

/-- Twice that root. -/
def factor : FVec Ideal S_ .f32 := mulf (constant S_ .f32 0x40000000#32) root

/-- The scaled reciprocal powers. -/
def recips : FVec Ideal S24 .f32 :=
  mulf (broadcastInDim S24 ![] bcast_S_S24 factor) (Host.powf tens (Host.negf exps))

/-- The scaled quantiles, 32 fillers in front. -/
def quants (q : FVec Ideal S96 .f32) : FVec Ideal S1x128 .f32 :=
  shapeCast S1x128 (concatenate S128 0 [⟨S32, broadcastInDim S32 ![] bcast_S_S32 (constant S_ .f32 0x7149F2CA#32)⟩,
    ⟨S96, mulf (broadcastInDim S96 ![] bcast_S_S96 factor) q⟩] concatenates_S32_S96_S128_d0) shapeCasts_S128_S1x128

/-- A tile's two offset words. -/
def offset (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- A 24-vector down the 96 last lanes. -/
def lanes96 (v : FVec Ideal S24 .f32) : FVec Ideal S24x96 .bf16 :=
  broadcastInDim S24x96 ![0, 1] bcast_S24x1_S24x96_0_1 (broadcastInDim S24x1 ![0] bcast_S24_S24x1_0
    (truncf .bf16 v bitsLt_bf16_f32))

/-- The high half of a split value. -/
def hi {s : Shape} (v : FVec Ideal s .f32) : FVec Ideal s .f32 :=
  extf .f32 (truncf .bf16 v bitsLt_bf16_f32) bitsLt_bf16_f32

/-- The product's right operand: the table's high and low halves, the reciprocals' high and low halves. -/
def operand (T : FVec Ideal S24x32 .f32) : FVec Ideal S48x128 .bf16 :=
  Host.scatter scatter_S48x128_S2_S24x96_01_n_01_0 (fun _ b => b)
    (Host.scatter scatter_S48x128_S2_S24x96_01_n_01_0 (fun _ b => b)
      (Host.scatter scatter_S48x128_S2_S24x32_01_n_01_0 (fun _ b => b)
        (Host.scatter scatter_S48x128_S2_S24x32_01_n_01_0 (fun _ b => b)
          (broadcastInDim S48x128 ![] bcast_S_S48x128 (constant S_ .bf16 0x0000#16))
          (offset 0#32 0#32) (truncf .bf16 (hi T) bitsLt_bf16_f32))
        (offset 24#32 0#32) (truncf .bf16 (subf T (hi T)) bitsLt_bf16_f32))
      (offset 0#32 32#32) (lanes96 (hi recips)))
    (offset 24#32 32#32) (lanes96 (subf recips (hi recips)))

variable (m : (ℓ : Loc nD τ sig) → Buf (Elt Ideal) ℓ) (c : Dev nD)

theorem V_lower : V m c main_call0_v20 = lower := by
  simp only [V, hostOps0, List.flatten_cons, List.flatten_nil, List.append_nil, List.cons_append,
      List.nil_append, StableHlo.TRef.nullary, StableHlo.TRef.unary, StableHlo.TRef.binary, StableHlo.TRef.ternary, StableHlo.TRef.toBuf, StableHlo.TRef.ofBuf, cast_eq]
  after_results_simp
  rfl

theorem V_upper : V m c main_call0_v24 = upper := by
  simp only [V, hostOps0, List.flatten_cons, List.flatten_nil, List.append_nil, List.cons_append,
      List.nil_append, StableHlo.TRef.nullary, StableHlo.TRef.unary, StableHlo.TRef.binary, StableHlo.TRef.ternary, StableHlo.TRef.toBuf, StableHlo.TRef.ofBuf, cast_eq]
  after_results_simp
  rfl

theorem V_numbers : V m c main_call0_v0 = transpose S50x16384 [1, 0] (m ((c : Thread nD τ).loc main_arg0)) transposes_S16384x50_S50x16384_1_0 := by
  simp only [V, hostOps0, List.flatten_cons, List.flatten_nil, List.append_nil, List.cons_append,
      List.nil_append, StableHlo.TRef.nullary, StableHlo.TRef.unary, StableHlo.TRef.binary, StableHlo.TRef.ternary, StableHlo.TRef.toBuf, StableHlo.TRef.ofBuf, cast_eq]
  after_results_simp

theorem V_quants : V m c main_call0_v70 = quants (m ((c : Thread nD τ).loc main_arg2)) := by
  simp only [V, hostOps0, List.flatten_cons, List.flatten_nil, List.append_nil, List.cons_append,
      List.nil_append, StableHlo.TRef.nullary, StableHlo.TRef.unary, StableHlo.TRef.binary, StableHlo.TRef.ternary, StableHlo.TRef.toBuf, StableHlo.TRef.ofBuf, cast_eq]
  after_results_simp
  rfl

theorem V_operand : V m c main_call0_v64 = operand (m ((c : Thread nD τ).loc main_arg1)) := by
  simp only [V, hostOps0, List.flatten_cons, List.flatten_nil, List.append_nil, List.cons_append,
      List.nil_append, StableHlo.TRef.nullary, StableHlo.TRef.unary, StableHlo.TRef.binary, StableHlo.TRef.ternary, StableHlo.TRef.toBuf, StableHlo.TRef.ofBuf, cast_eq]
  after_results_simp
  rfl

/-! ## The arrays at an index -/

theorem twice_apply (v : FVec Ideal S24 .f32) (j : Fin 48) :
    twice v (ix2 (0 : Fin 1) j) = v (ix1 (⟨(j : ℕ) % 24, by omega⟩ : Fin 24)) := by
  pointwise [twice]

/-- The exponent of bin `i`, computed in words and converted. -/
theorem exponent_word (i : ℕ) (hi : i < 24) :
    (FloatOps.sitofp (F := Ideal) .f32 (IntOp.addi (BitVec.ofNat 32 i) 4294967288#32) : EReal) = ((((i : ℤ) - 8 : ℤ) : ℝ) : EReal) := by
  have h : (IntOp.addi (BitVec.ofNat 32 i) 4294967288#32).toInt = (i : ℤ) - 8 := by
    have : ∀ i : Fin 24, (IntOp.addi (BitVec.ofNat 32 (i : ℕ)) 4294967288#32).toInt = ((i : ℕ) : ℤ) - 8 := by decide
    exact this ⟨i, hi⟩
  show (((IntOp.addi (BitVec.ofNat 32 i) 4294967288#32).toInt : ℝ) : EReal) = _
  rw [h]

/-- Selecting on the bin number. -/
theorem select_bin (i n : ℕ) (hi : i < 24) (hn : n < 24) (a b : EReal) :
    Scalar.select (IntOp.cmpi .eq (BitVec.ofNat 32 i) (BitVec.ofNat 32 n)) a b = if i = n then a else b := by
  have h : IntOp.cmpi .eq (BitVec.ofNat 32 i) (BitVec.ofNat 32 n) = BitVec.ofBool (decide (i = n)) := by
    have : ∀ i n : Fin 24, IntOp.cmpi .eq (BitVec.ofNat 32 (i : ℕ)) (BitVec.ofNat 32 (n : ℕ)) = BitVec.ofBool (decide ((i : ℕ) = n)) := by
      decide
    exact this ⟨i, hi⟩ ⟨n, hn⟩
  rw [h, Scalar.select]
  by_cases e : i = n <;> simp [e]

theorem ofBits_ten : Ideal.ofBits .f32 0x41200000#32 = ((10 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_top : Ideal.ofBits .f32 0x7F800000#32 = ⊤ := by
  simp [Ideal.ofBits, Ideal.ieee]

/-- A power of ten with an integer exponent. -/
theorem pow_ten (n : ℤ) : Ideal.pow (Ideal.ofBits .f32 0x41200000#32) (((n : ℤ) : ℝ) : EReal) = (ten n : EReal) := by
  rw [ofBits_ten]; rfl

theorem lower_apply (j : Fin 48) : lower (ix2 (0 : Fin 1) j) = binLo ((j : ℕ) % 24) := by
  have hj : (j : ℕ) % 24 < 24 := Nat.mod_lt _ (by norm_num)
  rw [lower, twice_apply]
  pointwise [binIs, exps, tens]
  rw [exponent_word _ hj, pow_ten]
  exact select_bin _ 0 hj (by norm_num) _ _

theorem upper_apply (j : Fin 48) : upper (ix2 (0 : Fin 1) j) = binUp ((j : ℕ) % 24) := by
  have hj : (j : ℕ) % 24 < 24 := Nat.mod_lt _ (by norm_num)
  rw [upper, twice_apply]
  pointwise [binIs, exps, tens]
  rw [exponent_word _ hj, ← EReal.coe_one, ← EReal.coe_add,
    show (((((j : ℕ) % 24 : ℕ) : ℤ) - 8 : ℤ) : ℝ) + 1 = (((((j : ℕ) % 24 : ℕ) : ℤ) - 7 : ℤ) : ℝ) by push_cast; ring,
    pow_ten, ofBits_top]
  exact select_bin _ 23 hj (by norm_num) _ _

/-- The factor the tables carry. -/
theorem factor_eq : Ideal.ofBits .f32 0x40000000#32 * Ideal.sqrt (Ideal.div 1 (Ideal.log (Ideal.ofBits .f32 0x40000000#32)))
    = (scale : EReal) := by
  have h : 0 < Real.log 2 := Real.log_pos one_lt_two
  rw [ofBits_two, Ideal.log_coe, if_neg (by norm_num), Ideal.div_coe h.ne', one_mul, Ideal.sqrt_coe,
    if_neg (not_lt.2 (one_div_pos.2 h).le), ← EReal.coe_mul]
  rfl

theorem recips_apply (j : Fin 24) : recips (ix1 j) = ((scale * ten (8 - ((j : ℕ) : ℤ)) : ℝ) : EReal) := by
  pointwise [recips, factor, root, exps, tens]
  rw [exponent_word _ j.isLt, factor_eq, ← EReal.coe_neg,
    show -((((j : ℕ) : ℤ) - 8 : ℤ) : ℝ) = ((8 - ((j : ℕ) : ℤ) : ℤ) : ℝ) by push_cast; ring, pow_ten, ← EReal.coe_mul]

theorem quants_apply (q : FVec Ideal S96 .f32) (d : Fin 128) (hd : 32 ≤ (d : ℕ)) :
    quants q (ix2 (0 : Fin 1) d) = (scale : EReal) * q (ix1 (⟨(d : ℕ) - 32, by omega⟩ : Fin 96)) := by
  pointwise [quants, factor, root]
  rw [dif_neg (by omega), factor_eq]

theorem offset_apply (a b : BitVec 32) : offset a b (ix1 (0 : Fin 2)) = a ∧ offset a b (ix1 (1 : Fin 2)) = b := by
  constructor <;> pointwise [offset]

theorem oneTile32 : Tile.OneTile (R := 48) (C := 128) (p := 24) (q := 32) scatter_S48x128_S2_S24x32_01_n_01_0 :=
  ⟨rfl, rfl, rfl, rfl⟩

theorem oneTile96 : Tile.OneTile (R := 48) (C := 128) (p := 24) (q := 96) scatter_S48x128_S2_S24x96_01_n_01_0 :=
  ⟨rfl, rfl, rfl, rfl⟩

theorem lanes96_apply (v : FVec Ideal S24 .f32) (j : Fin 24) (l : Fin 96) : lanes96 v (ix2 j l) = v (ix1 j) := by
  pointwise [lanes96]

/-- The operand at a row and a lane, by the four tiles. -/
theorem operand_apply (T : FVec Ideal S24x32 .f32) (j : Fin 48) (d : Fin 128) :
    operand T (ix2 j d) =
      if h : (24 ≤ (j : ℕ) ∧ (j : ℕ) < 24 + 24) ∧ (32 ≤ (d : ℕ) ∧ (d : ℕ) < 32 + 96) then
        recips (ix1 (⟨(j : ℕ) - 24, by omega⟩ : Fin 24)) - recips (ix1 (⟨(j : ℕ) - 24, by omega⟩ : Fin 24))
      else if h : (0 ≤ (j : ℕ) ∧ (j : ℕ) < 0 + 24) ∧ (32 ≤ (d : ℕ) ∧ (d : ℕ) < 32 + 96) then
        recips (ix1 (⟨(j : ℕ) - 0, by omega⟩ : Fin 24))
      else if h : (24 ≤ (j : ℕ) ∧ (j : ℕ) < 24 + 24) ∧ (0 ≤ (d : ℕ) ∧ (d : ℕ) < 0 + 32) then
        T (ix2 (⟨(j : ℕ) - 24, by omega⟩ : Fin 24) (⟨(d : ℕ) - 0, by omega⟩ : Fin 32))
          - T (ix2 (⟨(j : ℕ) - 24, by omega⟩ : Fin 24) (⟨(d : ℕ) - 0, by omega⟩ : Fin 32))
      else if h : (0 ≤ (j : ℕ) ∧ (j : ℕ) < 0 + 24) ∧ (0 ≤ (d : ℕ) ∧ (d : ℕ) < 0 + 32) then
        T (ix2 (⟨(j : ℕ) - 0, by omega⟩ : Fin 24) (⟨(d : ℕ) - 0, by omega⟩ : Fin 32))
      else 0 := by
  unfold operand
  rw [Tile.set_tile oneTile96 _ _ _ 24 32 (by rw [(offset_apply _ _).1]; decide) (by rw [(offset_apply _ _).2]; decide)]
  rw [Tile.set_tile oneTile96 _ _ _ 0 32 (by rw [(offset_apply _ _).1]; decide) (by rw [(offset_apply _ _).2]; decide)]
  rw [Tile.set_tile oneTile32 _ _ _ 24 0 (by rw [(offset_apply _ _).1]; decide) (by rw [(offset_apply _ _).2]; decide)]
  rw [Tile.set_tile oneTile32 _ _ _ 0 0 (by rw [(offset_apply _ _).1]; decide) (by rw [(offset_apply _ _).2]; decide)]
  simp only [lanes96_apply]
  pointwise [hi]

end Cert.Proof.Tables

end
-- ==== Proof.Final.lean ====
/- The kernel's output array, read at an index over the arguments. -/
module

public import proofs.«01_k».proof.Proof.Block
public import proofs.«01_k».proof.Proof.Tables
public import proofs.«01_k».proof.Proof.Gen.KernelIdeal.Value
public import Idealize.ShloMosaic.Lib.Pipeline.ValueKit

@[expose] public section

set_option maxRecDepth 16384

noncomputable section

namespace Cert.Proof.Final

open Idealize.ShloMosaic Idealize.ShloMosaic.TcCoe Idealize.SL.Sem
open Cert.KernelIdeal Cert.KernelIdeal.Gen Cert.KernelIdeal.Facts Cert.Proof.Row Cert.Proof.Block Cert.Proof.Tables

theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- What the kernel writes at an index of the output. -/
def written (X : FVec Ideal S16384x50 .f32) (T : FVec Ideal S24x32 .f32) (Q : FVec Ideal S96 .f32) : FVec Ideal S16384x50x128 .f32 :=
  fun i => cell (X (ix2 (i 0) (i 1)) + Ideal.ofBits .f32 0x2EDBE6FF#32) (fun j => lower (ix2 (0 : Fin 1) j))
    (fun j => upper (ix2 (0 : Fin 1) j)) (fun j => operand T (ix2 j (i 2))) (quants Q (ix2 (0 : Fin 1) (i 2)))
    (((i 2 : Fin 128) : ℕ) < 32)

variable (m : (ℓ : Loc nD τ sig) → Buf (Elt Ideal) ℓ) (c : Dev nD) (t : Fin cfg0.N)

theorem at0 (A : FVec Ideal S50x16384 .f32) (r : Fin 256) (s : Fin 50) (h : t.val * 256 + (r : ℕ) < 16384) :
    A ((win0_0.blk t).view.emb (ix2 s r)) = A (ix2 s (⟨t.val * 256 + r, h⟩ : Fin 16384)) := by
  blk_ext [idx t]

theorem at1 (A : FVec Ideal S48x128 .f32) (i : Fin 48) (j : Fin 128) : A ((win0_1.blk t).view.emb (ix2 i j)) = A (ix2 i j) := by
  blk_ext [idx t]

theorem at2 (A : FVec Ideal S1x48 .f32) (i : Fin 1) (j : Fin 48) : A ((win0_2.blk t).view.emb (ix2 i j)) = A (ix2 i j) := by
  blk_ext [idx t]

theorem at3 (A : FVec Ideal S1x48 .f32) (i : Fin 1) (j : Fin 48) : A ((win0_3.blk t).view.emb (ix2 i j)) = A (ix2 i j) := by
  blk_ext [idx t]

theorem at4 (A : FVec Ideal S1x128 .f32) (i : Fin 1) (j : Fin 128) : A ((win0_4.blk t).view.emb (ix2 i j)) = A (ix2 i j) := by
  blk_ext [idx t]

theorem at5 (A : FVec Ideal S16384x50x128 .f32) (r : Fin 256) (s : Fin 50) (d : Fin 128) (h : t.val * 256 + (r : ℕ) < 16384) :
    A ((win0_5.blk t).view.emb (ix3 r s d)) = A (ix3 (⟨t.val * 256 + r, h⟩ : Fin 16384) s d) := by
  blk_ext [idx t]

theorem read0 (r : Fin 256) (s : Fin 50) (h : t.val * 256 + (r : ℕ) < 16384) :
    iblk m c 0 t (ix2 s r) = m ((c : Thread nD τ).loc main_arg0) (ix2 (⟨t.val * 256 + r, h⟩ : Fin 16384) s) := by
  blk_simp [iblk]
  rw [V_numbers]
  refine (at0 t _ r s h).trans ?_
  pointwise

theorem read1 (i : Fin 48) (j : Fin 128) : iblk m c 1 t (ix2 i j) = operand (m ((c : Thread nD τ).loc main_arg1)) (ix2 i j) := by
  blk_simp [iblk]
  rw [V_operand]
  exact at1 t _ i j

theorem read2 (i : Fin 1) (j : Fin 48) : iblk m c 2 t (ix2 i j) = lower (ix2 i j) := by
  blk_simp [iblk]
  rw [V_lower]
  exact at2 t _ i j

theorem read3 (i : Fin 1) (j : Fin 48) : iblk m c 3 t (ix2 i j) = upper (ix2 i j) := by
  blk_simp [iblk]
  rw [V_upper]
  exact at3 t _ i j

theorem read4 (i : Fin 1) (j : Fin 128) : iblk m c 4 t (ix2 i j) = quants (m ((c : Thread nD τ).loc main_arg2)) (ix2 i j) := by
  blk_simp [iblk]
  rw [V_quants]
  exact at4 t _ i j

theorem block_eq (r : Fin 256) (s : Fin 50) (d : Fin 128) (h : t.val * 256 + (r : ℕ) < 16384) :
    blockVal (iblk m c 0 t) (iblk m c 1 t) (iblk m c 2 t) (iblk m c 3 t) (iblk m c 4 t) (ix3 r s d)
      = written (m ((c : Thread nD τ).loc main_arg0)) (m ((c : Thread nD τ).loc main_arg1)) (m ((c : Thread nD τ).loc main_arg2))
          (ix3 (⟨t.val * 256 + r, h⟩ : Fin 16384) s d) := by
  have e0 := read0 m c t r s h
  have e1 := fun j => read1 m c t j d
  have e2 := fun j => read2 m c t 0 j
  have e3 := fun j => read3 m c t 0 j
  have e4 := read4 m c t 0 d
  unfold blockVal written
  simp only [ix3_0, ix3_1, ix3_2, e0, e1, e2, e3, e4]
  congr

theorem final : (dats m 0 c).arrAt 5 (cfgs 0).N
    = written (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, out_apply]
  obtain ⟨r, s, d, rfl⟩ : ∃ (r : Fin 256) (s : Fin 50) (d : Fin 128), y = ix3 r s d := ⟨y 0, y 1, y 2, eq_ix3 y⟩
  have ht : t.val < 64 := t.isLt
  have h : t.val * 256 + (r : ℕ) < 16384 := by omega
  exact (block_eq m c t r s d h).trans (at5 t _ r s d h).symm

end Cert.Proof.Final

end
-- ==== Proof.Admit.lean ====
/- What the precondition says, read at an index: every number is admitted, every table entry is a real. -/
module

public import proofs.«01_k».proof.Pre_in_range
public import proofs.«01_k».proof.Proof.Decade
public import Idealize.ShloMosaic.Lib.ReduceAll
public import Idealize.ShloMosaic.Lib.Pointwise

@[expose] public section

noncomputable section

namespace Cert.Proof.Admit

open Idealize.ShloMosaic Cert.Pre_in_range Cert.Proof.Decade

/-- The precondition's side conditions. -/
instance facts : Cert.Pre_in_range.Facts := ⟨by decide, by decide, by decide, by decide, by decide⟩

theorem ofBits_top : Ideal.ofBits .f32 0x7F800000#32 = ⊤ := by
  simp [Ideal.ofBits, Ideal.ieee]

theorem of_word {p : Prop} [Decidable p] (h : BitVec.ofBool (decide p) = 1#1) : p := by
  by_contra hp
  rw [decide_eq_false hp] at h
  exact absurd h (by decide)

theorem real_of_le {x : EReal} {a b : ℝ} (h : (a : EReal) ≤ x) (h' : x < (b : EReal)) : ∃ r : ℝ, x = (r : EReal) ∧ a ≤ r ∧ r < b := by
  induction x using EReal.rec with
  | bot => exact absurd h (by simp)
  | top => exact absurd h' (by simp)
  | coe x => exact ⟨x, rfl, EReal.coe_le_coe_iff.1 h, EReal.coe_lt_coe_iff.1 h'⟩

theorem real_of_abs {x : EReal} (h : max x (-x) < ⊤) : ∃ r : ℝ, x = (r : EReal) := by
  induction x using EReal.rec with
  | bot => exact absurd h (by simp)
  | top => exact absurd h (by simp)
  | coe x => exact ⟨x, rfl⟩

variable {X : FVec Ideal S16384x50 .f32} {T : FVec Ideal S24x32 .f32} {Q : FVec Ideal S96 .f32}

theorem number (h : Cert.Pre_in_range.fn (F := Ideal) X T Q = fun _ => 1#1) (i : S16384x50.Idx) :
    ∃ x : ℝ, X i = (x : EReal) ∧ Admitted x := by
  have h0 := congrFun h ix0
  unfold Cert.Pre_in_range.fn at h0
  have h1 := (IntOp.andi_eq_one.1 h0).1
  have h2 := Host.reduce_andi_all _ _ _ _ _ h1 i
  pointwise at h2
  rw [ofBits_least, ofBits_most] at h2
  rcases IntOp.ori_eq_one.1 h2 with h3 | h3
  · exact ⟨0, of_word h3, Or.inl rfl⟩
  · obtain ⟨x, e, hx⟩ := real_of_le (of_word (IntOp.andi_eq_one.1 h3).1) (of_word (IntOp.andi_eq_one.1 h3).2)
    exact ⟨x, e, Or.inr hx⟩

theorem entry (h : Cert.Pre_in_range.fn (F := Ideal) X T Q = fun _ => 1#1) (i : S24x32.Idx) :
    ∃ r : ℝ, T i = (r : EReal) := by
  have h0 := congrFun h ix0
  unfold Cert.Pre_in_range.fn at h0
  have h1 := (IntOp.andi_eq_one.1 h0).2
  have h2 := Host.reduce_andi_all _ _ _ _ _ h1 i
  pointwise at h2
  rw [ofBits_top] at h2
  exact real_of_abs (of_word h2)

end Cert.Proof.Admit

end
-- ==== Proof.Take.lean ====
/- One row of a table per index: the gather of `table[idx]` for a matrix of row numbers, read at an index. -/
module

public import Idealize.ShloMosaic.Lib.Pointwise
public import Idealize.ShloMosaic.Lib.ValueIdx

@[expose] public section

namespace Cert.Proof.Take

open Idealize.ShloMosaic

variable {α : Type} {N L B S : ℕ}

/-- The dimension numbers of that gather: the row axis collapsed, the lane axis the slice. -/
structure TakesRows (d : GatherDims ⟨2, ![N, L]⟩ ⟨3, ![B, S, 1]⟩ ⟨3, ![B, S, L]⟩) : Prop where
  offset : d.offsetDims = [2]
  collapsed : d.collapsedSliceDims = [0]
  batching : d.operandBatchingDims = []
  starts : d.startIndexMap = [0]
  vector : d.indexVectorDim = 2
  sizes : d.sliceSizes = ![1, L]

/-- Where the gather reads the row number of `(b, s, l)`. -/
theorem index_at {d : GatherDims ⟨2, ![N, L]⟩ ⟨3, ![B, S, 1]⟩ ⟨3, ![B, S, L]⟩} (hd : TakesRows d) (b : Fin B) (s : Fin S) (l : Fin L)
    (c : Fin d.startIndexMap.length) : d.siIdx (ix3 b s l) c = ix3 b s (0 : Fin 1) := by
  obtain ⟨od, cd, ob, sb, sm, iv, sz, wf⟩ := d
  obtain ⟨h1, h2, h3, h4, h5, h6⟩ := hd
  dsimp only at h1 h2 h3 h4 h5 h6
  subst h1 h2 h3 h4 h5 h6
  funext e
  refine Fin.ext ?_
  match e with
  | ⟨0, _⟩ => rfl
  | ⟨1, _⟩ => rfl
  | ⟨2, _⟩ => exact Nat.lt_one_iff.1 c.isLt

/-- The element at `(b, s, l)`: lane `l` of the row the index at `(b, s)` names, when it names one of the table's. -/
theorem row_apply {d : GatherDims ⟨2, ![N, L]⟩ ⟨3, ![B, S, 1]⟩ ⟨3, ![B, S, L]⟩} (hd : TakesRows d)
    (x : (⟨2, ![N, L]⟩ : Shape).Idx → α) (idx : IVec ⟨3, ![B, S, 1]⟩ 32) (b : Fin B) (s : Fin S) (l : Fin L) (n : Fin N)
    (hn : (idx (ix3 b s (0 : Fin 1))).toInt = (n : ℕ)) : Host.gather d x idx (ix3 b s l) = x (ix2 n l) := by
  have hsi := index_at hd b s l
  obtain ⟨od, cd, ob, sb, sm, iv, sz, wf⟩ := d
  obtain ⟨h1, h2, h3, h4, h5, h6⟩ := hd
  dsimp only at h1 h2 h3 h4 h5 h6
  subst h1 h2 h3 h4 h5 h6
  unfold Host.gather
  congr 1
  funext a
  refine Fin.ext ?_
  match a with
  | ⟨0, _⟩ =>
    show GatherDims.start _ (ix3 b s l) idx 0 + GatherDims.batchCoord _ (ix3 b s l) 0 + GatherDims.offCoord _ (ix3 b s l) 0 = (n : ℕ)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl), hsi, hn]
    have := n.isLt
    show min ((n : ℕ) : ℤ).toNat (N - 1) + 0 + 0 = _
    omega
  | ⟨1, _⟩ =>
    show GatherDims.start _ (ix3 b s l) idx 1 + GatherDims.batchCoord _ (ix3 b s l) 1 + GatherDims.offCoord _ (ix3 b s l) 1 = (l : ℕ)
    rw [GatherDims.batchCoord_eq_zero _ _ _ List.not_mem_nil]
    unfold GatherDims.start
    rw [dif_neg (fun h => absurd (List.mem_singleton.1 h) (by decide : (1 : Fin 2) ≠ 0))]
    unfold GatherDims.offCoord
    rw [dif_pos ((GatherDims.mem_sKept _ _).mpr ⟨fun h => absurd (List.mem_singleton.1 h) (by decide : (1 : Fin 2) ≠ 0), List.not_mem_nil⟩), Nat.zero_add]
    rfl

end Cert.Proof.Take

end
-- ==== Proof.Reference.lean ====
/- The reference's result, read at an index: a table row next to the radial bumps at the mantissa. -/
module

public import proofs.«01_k».proof.Proof.Decade
public import proofs.«01_k».proof.Proof.Take
public import proofs.«01_k».proof.Proof.Gen.ReferenceIdeal.Run
public import Idealize.ShloMosaic.Lib.ReduceAll
public import Idealize.ShloMosaic.Lib.Pointwise

@[expose] public section

set_option maxRecDepth 16384

noncomputable section

namespace Cert.Proof.Reference

open Idealize.ShloMosaic Idealize.ShloMosaic.TcCoe Idealize.SL.Sem
open Cert.ReferenceIdeal Cert.ReferenceIdeal.Gen Cert.ReferenceIdeal.Facts Cert.Proof.Decade

/-! ## The result's parts, named -/

/-- The decimal exponents, as floats. -/
def bases (x : FVec Ideal S16384x50 .f32) : FVec Ideal S16384x50 .f32 :=
  Host.floor (Host.divf (Host.log (addf x (broadcastInDim S16384x50 ![] bcast_S_S16384x50 (constant S_ .f32 0x2EDBE6FF#32))))
    (broadcastInDim S16384x50 ![] bcast_S_S16384x50 (Host.log (constant S_ .f32 0x41200000#32))))

/-- The row numbers: the exponents moved up by 8 and clipped to the table. -/
def clipped (x : FVec Ideal S16384x50 .f32) : IVec S16384x50 32 :=
  minsi (broadcastInDim S16384x50 ![] bcast_S_S16384x50 (id (constantI S_ 32 23#32)))
    (maxsi (broadcastInDim S16384x50 ![] bcast_S_S16384x50 (id (constantI S_ 32 0#32)))
      (addi (fptosi 32 (bases x)) (broadcastInDim S16384x50 ![] bcast_S_S16384x50 (constantI S_ 32 8#32))))

/-- The row numbers where the gather reads them, a negative one counted from the table's end. -/
def starts (i : IVec S16384x50 32) : IVec S16384x50x1 32 :=
  broadcastInDim S16384x50x1 ![0, 1] bcast_S16384x50_S16384x50x1_0_1
    (select (cmpi .slt i (broadcastInDim S16384x50 ![] bcast_S_S16384x50 (constantI S_ 32 0#32)))
      (addi i (broadcastInDim S16384x50 ![] bcast_S_S16384x50 (constantI S_ 32 24#32))) i)

/-- Whether each row number is one of the table's. -/
def inside (i : IVec S16384x50x1 32) : IVec S16384x50x1 1 :=
  andi (cmpi .sge i (broadcastInDim S16384x50x1 ![] bcast_S_S16384x50x1 (constantI S_ 32 0#32)))
    (cmpi .sle i (broadcastInDim S16384x50x1 ![0, 1, 2] bcast_S1x1x1_S16384x50x1_0_1_2
      (broadcastInDim S1x1x1 ![2] bcast_S1_S1x1x1_2 (constantI S1 32 23#32))))

/-- The table's rows, with a filler where a row number is outside. -/
def rows (i : IVec S16384x50x1 32) (T : FVec Ideal S24x32 .f32) : FVec Ideal S16384x50x32 .f32 :=
  select (broadcastInDim S16384x50x32 ![0, 1] bcast_S16384x50_S16384x50x32_0_1
      (Host.reduce IntOp.andi (inside i) (constantI S_ 1 1#1) reducesTo_S16384x50x1_S16384x50_d2 h_S_))
    (Host.gather gather_S24x32_S16384x50x1_S16384x50x32_2_0_n_n_0_2_132 T i)
    (broadcastInDim S16384x50x32 ![] bcast_S_S16384x50x32 (constant S_ .f32 0x7FC00000#32))

/-- The mantissas' distances to the bumps' centres, over their width. -/
def distances (x : FVec Ideal S16384x50 .f32) (q : FVec Ideal S96 .f32) : FVec Ideal S16384x50x96 .f32 :=
  Host.divf
    (subf
      (broadcastInDim S16384x50x96 ![0, 1, 2] bcast_S16384x50x1_S16384x50x96_0_1_2
        (broadcastInDim S16384x50x1 ![0, 1] bcast_S16384x50_S16384x50x1_0_1
          (Host.divf x (Host.powf (broadcastInDim S16384x50 ![] bcast_S_S16384x50 (constant S_ .f32 0x41200000#32)) (bases x)))))
      (broadcastInDim S16384x50x96 ![0, 1, 2] bcast_S1x1x96_S16384x50x96_0_1_2
        (broadcastInDim S1x1x96 ![1, 2] bcast_S1x96_S1x1x96_1_2 (broadcastInDim S1x96 ![1] bcast_S96_S1x96_1 q))))
    (broadcastInDim S16384x50x96 ![] bcast_S_S16384x50x96 (constant S_ .f32 0x3F000000#32))

/-- The two parts side by side. -/
def result (x : FVec Ideal S16384x50 .f32) (T : FVec Ideal S24x32 .f32) (q : FVec Ideal S96 .f32) : FVec Ideal S16384x50x128 .f32 :=
  concatenate S16384x50x128 2 [⟨S16384x50x32, rows (starts (clipped x)) T⟩,
    ⟨S16384x50x96, Host.exp (Host.negf (mulf (distances x q) (distances x q)))⟩] concatenates_S16384x50x32_S16384x50x96_S16384x50x128_d2

theorem out_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) := by
  unfold Value.res_out0 Value.res_main_v26
  rfl

/-! ## The parts at an index -/

theorem ofBits_half : Ideal.ofBits .f32 0x3F000000#32 = ((1 / 2 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

variable {X : FVec Ideal S16384x50 .f32} {b : Fin 16384} {s : Fin 50} {x : ℝ}

/-- The decimal exponent of a number is its decade. -/
theorem bases_apply (hX : X (ix2 b s) = (x : EReal)) (hx : Admitted x) :
    bases X (ix2 b s) = (((decade (x + eps) : ℤ) : ℝ) : EReal) := by
  pointwise [bases]
  rw [hX, ofBits_eps, ofBits_ten, ← EReal.coe_add, Ideal.log_coe, if_neg (not_le.2 hx.pos), Ideal.log_coe,
    if_neg (by norm_num), Ideal.div_coe log_ten_pos.ne', ← EReal.coe_mul, Ideal.liftRound_coe,
    show Real.log (x + eps) * (1 / Real.log 10) = Real.log (x + eps) / Real.log 10 by ring]
  rfl

/-- An admitted number is below the table's last decade's end. -/
theorem decade_le (hx : Admitted x) : decade (x + eps) ≤ 15 := by
  rcases hx.decade with h | h
  · have := (lt_ten_iff hx.pos 16).1 (by
      rw [h, ten_eq, zero_add]
      refine lt_of_lt_of_le (b := 1) (by unfold eps; norm_num) (one_le_zpow₀ (by norm_num) (by norm_num)))
    omega
  · have := (slot (x + eps)).isLt
    omega

/-- Clipping a word to 0 … 23, read as an integer. -/
theorem clip_toInt (w : BitVec 32) : (IntOp.minsi 23#32 (IntOp.maxsi 0#32 w)).toInt = max 0 (min 23 w.toInt) := by
  have h0 : (0#32 : BitVec 32).toInt = 0 := by decide
  have h1 : (23#32 : BitVec 32).toInt = 23 := by decide
  unfold IntOp.minsi IntOp.maxsi
  simp only [BitVec.slt, decide_eq_true_eq, h0, h1]
  split_ifs <;> omega

theorem clipped_read (X : FVec Ideal S16384x50 .f32) (b : Fin 16384) (s : Fin 50) :
    (clipped X (ix2 b s)).toInt
      = max 0 (min 23 (IntOp.addi (FloatOps.fptosi (F := Ideal) 32 (bases X (ix2 b s))) 8#32).toInt) := by
  pointwise [clipped]
  exact clip_toInt _

/-- Converting an exponent and moving it up by 8 does not wrap around. -/
theorem exponent_toInt (n : ℤ) (hn : n ≤ 15) :
    max 0 (min 23 (IntOp.addi (FloatOps.fptosi (F := Ideal) (φ := .f32) 32 (((n : ℤ) : ℝ) : EReal)) 8#32).toInt)
      = max 0 (min 23 (n + 8)) := by
  have h : FloatOps.fptosi (F := Ideal) (φ := .f32) 32 (((n : ℤ) : ℝ) : EReal) = BitVec.ofInt 32 (max (-2147483648) (min 2147483647 n)) := by
    show Ideal.fptosi 32 _ = _
    unfold Ideal.fptosi
    rw [Ideal.toIntClamped_coe]
    norm_num
  rw [h]
  show max 0 (min 23 (BitVec.ofInt 32 (max (-2147483648) (min 2147483647 n)) + 8#32).toInt) = _
  rw [BitVec.toInt_add, BitVec.toInt_ofInt, show (8#32 : BitVec 32).toInt = 8 by decide]
  rw [Int.bmod_eq_of_le (n := max (-2147483648) (min 2147483647 n)) (by omega) (by omega), Int.bmod_eq_of_le (by omega) (by omega)]
  omega

/-- The row number of an admitted number is its bin. -/
theorem clipped_apply (hX : X (ix2 b s) = (x : EReal)) (hx : Admitted x) :
    (clipped X (ix2 b s)).toInt = ((slot (x + eps) : ℕ) : ℤ) := by
  rw [clipped_read, bases_apply hX hx, exponent_toInt _ (decade_le hx), slot_val]

theorem clipped_bounds (X : FVec Ideal S16384x50 .f32) (b : Fin 16384) (s : Fin 50) :
    0 ≤ (clipped X (ix2 b s)).toInt ∧ (clipped X (ix2 b s)).toInt ≤ 23 := by
  rw [clipped_read]
  omega

/-- A row number that is not negative is read as it stands. -/
theorem starts_apply (i : IVec S16384x50 32) (b : Fin 16384) (s : Fin 50) (h : 0 ≤ (i (ix2 b s)).toInt) :
    starts i (ix3 b s (0 : Fin 1)) = i (ix2 b s) := by
  pointwise [starts]
  have : IntOp.cmpi .slt (i (ix2 b s)) 0#32 = 0#1 := by
    have h0 : (0#32 : BitVec 32).toInt = 0 := by decide
    simp [IntOp.cmpi, BitVec.slt, h0, not_lt.2 h]
  rw [this]
  rfl

/-- Every row number is inside the table. -/
theorem inside_apply (X : FVec Ideal S16384x50 .f32) (y : S16384x50x1.Idx) : inside (starts (clipped X)) y = 1#1 := by
  obtain ⟨b, s, z, rfl⟩ : ∃ (b : Fin 16384) (s : Fin 50) (z : Fin 1), y = ix3 b s z := ⟨y 0, y 1, y 2, eq_ix3 y⟩
  obtain rfl : z = 0 := Subsingleton.elim _ _
  have hb := clipped_bounds X b s
  pointwise [inside]
  rw [starts_apply _ _ _ hb.1]
  have h0 : (0#32 : BitVec 32).toInt = 0 := by decide
  have h1 : (23#32 : BitVec 32).toInt = 23 := by decide
  simp [IntOp.cmpi, IntOp.andi, BitVec.sle, h0, h1, hb.1, hb.2]

/-- The table's part at an index: the row of the number's bin. -/
theorem rows_apply (hX : X (ix2 b s) = (x : EReal)) (hx : Admitted x) (T : FVec Ideal S24x32 .f32) (l : Fin 32) :
    rows (starts (clipped X)) T (ix3 b s l) = T (ix2 (slot (x + eps)) l) := by
  have hg : Host.gather gather_S24x32_S16384x50x1_S16384x50x32_2_0_n_n_0_2_132 T (starts (clipped X)) (ix3 b s l)
      = T (ix2 (slot (x + eps)) l) :=
    Take.row_apply ⟨rfl, rfl, rfl, rfl, rfl, rfl⟩ T _ b s l _ (by
      rw [starts_apply _ _ _ (clipped_bounds X b s).1, clipped_apply hX hx])
  pointwise [rows]
  rw [hg]
  simp only [inside_apply, Finset.univ_unique, Finset.fold_singleton]
  rfl

/-- The bumps' part at an index. -/
theorem distances_apply (hX : X (ix2 b s) = (x : EReal)) (hx : Admitted x) (q : FVec Ideal S96 .f32) (l : Fin 96) :
    distances X q (ix3 b s l)
      = Ideal.div (Ideal.div (x : EReal) (ten (decade (x + eps)) : EReal) - q (ix1 l)) ((1 / 2 : ℝ) : EReal) := by
  have hb := bases_apply hX hx
  pointwise [distances]
  rw [hb, hX, ofBits_half, ofBits_ten]
  rfl

/-- The result in its first 32 lanes. -/
theorem result_first (hX : X (ix2 b s) = (x : EReal)) (hx : Admitted x) (T : FVec Ideal S24x32 .f32) (q : FVec Ideal S96 .f32)
    (d : Fin 128) (hd : (d : ℕ) < 32) :
    result X T q (ix3 b s d) = T (ix2 (slot (x + eps)) (⟨d, hd⟩ : Fin 32)) := by
  have := rows_apply hX hx T ⟨d, hd⟩
  pointwise [result]
  rw [dif_pos hd, this]

/-- The result in its other 96 lanes. -/
theorem result_rest (hX : X (ix2 b s) = (x : EReal)) (hx : Admitted x) (T : FVec Ideal S24x32 .f32) (q : FVec Ideal S96 .f32)
    (d : Fin 128) (hd : 32 ≤ (d : ℕ)) :
    result X T q (ix3 b s d)
      = Ideal.exp (-(Ideal.div (Ideal.div (x : EReal) (ten (decade (x + eps)) : EReal) - q (ix1 (⟨(d : ℕ) - 32, by omega⟩ : Fin 96))) ((1 / 2 : ℝ) : EReal)
          * Ideal.div (Ideal.div (x : EReal) (ten (decade (x + eps)) : EReal) - q (ix1 (⟨(d : ℕ) - 32, by omega⟩ : Fin 96))) ((1 / 2 : ℝ) : EReal))) := by
  have := distances_apply hX hx q ⟨(d : ℕ) - 32, by omega⟩
  pointwise [result]
  rw [dif_neg (not_lt.2 hd), this]

end Cert.Proof.Reference

end
-- ==== Proof.Same.lean ====
/- Under the precondition, what the kernel writes is the reference's result. -/
module

public import proofs.«01_k».proof.Proof.Final
public import proofs.«01_k».proof.Proof.Admit
public import proofs.«01_k».proof.Proof.Reference

@[expose] public section

noncomputable section

namespace Cert.Proof.Same

open Idealize.ShloMosaic
open Cert.KernelIdeal Cert.Proof.Row Cert.Proof.Decade Cert.Proof.Tables Cert.Proof.Final

variable {X : FVec Ideal S16384x50 .f32} {T : FVec Ideal S24x32 .f32} {Q : FVec Ideal S96 .f32} {x : ℝ} {b : Fin 16384} {s : Fin 50}

theorem top_first (k : Fin 24) (h : (k : ℕ) < 48) (d : Fin 128) (hd : (d : ℕ) < 32) :
    operand T (ix2 (⟨k, h⟩ : Fin 48) d) = T (ix2 k ⟨d, hd⟩) := by
  have hk := k.isLt
  rw [operand_apply, dif_neg (by dsimp only; omega), dif_neg (by dsimp only; omega), dif_neg (by dsimp only; omega),
    dif_pos (by dsimp only; omega)]
  rfl

theorem low_first (k : Fin 24) (h : 24 + (k : ℕ) < 48) (d : Fin 128) (hd : (d : ℕ) < 32) :
    operand T (ix2 (⟨24 + (k : ℕ), h⟩ : Fin 48) d) = T (ix2 k ⟨d, hd⟩) - T (ix2 k ⟨d, hd⟩) := by
  have hk := k.isLt
  have e : ∀ h', (⟨24 + (k : ℕ) - 24, h'⟩ : Fin 24) = k := fun _ => Fin.ext (by dsimp only; omega)
  rw [operand_apply, dif_neg (by dsimp only; omega), dif_neg (by dsimp only; omega), dif_pos (by dsimp only; omega)]
  simp only [e]
  rfl

theorem top_rest (k : Fin 24) (h : (k : ℕ) < 48) (d : Fin 128) (hd : 32 ≤ (d : ℕ)) :
    operand T (ix2 (⟨k, h⟩ : Fin 48) d) = ((scale * ten (8 - ((k : ℕ) : ℤ)) : ℝ) : EReal) := by
  have hk := k.isLt
  rw [operand_apply, dif_neg (by dsimp only; omega), dif_pos (by dsimp only; omega), recips_apply]
  rfl

theorem low_rest (k : Fin 24) (h : 24 + (k : ℕ) < 48) (d : Fin 128) (hd : 32 ≤ (d : ℕ)) :
    operand T (ix2 (⟨24 + (k : ℕ), h⟩ : Fin 48) d)
      = ((scale * ten (8 - ((k : ℕ) : ℤ)) : ℝ) : EReal) - ((scale * ten (8 - ((k : ℕ) : ℤ)) : ℝ) : EReal) := by
  have hk := k.isLt
  have e : ∀ h', (⟨24 + (k : ℕ) - 24, h'⟩ : Fin 24) = k := fun _ => Fin.ext (by dsimp only; omega)
  rw [operand_apply, dif_pos (by dsimp only; omega)]
  simp only [e, recips_apply]

theorem written_first (hX : X (ix2 b s) = (x : EReal)) (hx : Admitted x) (hT : ∀ i, ∃ r : ℝ, T i = (r : EReal)) (d : Fin 128)
    (hd : (d : ℕ) < 32) : written X T Q (ix3 b s d) = T (ix2 (slot (x + eps)) ⟨d, hd⟩) := by
  obtain ⟨r, hr⟩ := hT (ix2 (slot (x + eps)) ⟨d, hd⟩)
  unfold written
  simp only [ix3_0, ix3_1, ix3_2, hX]
  rw [hr]
  refine cell_first _ _ _ hx lower_apply upper_apply _ _ hd r ?_ ?_
  · rw [top_first _ _ d hd, hr]
  · rw [low_first _ _ d hd, hr]

theorem written_rest (hX : X (ix2 b s) = (x : EReal)) (hx : Admitted x) (d : Fin 128) (hd : 32 ≤ (d : ℕ)) :
    written X T Q (ix3 b s d) = Cert.Proof.Reference.result X T Q (ix3 b s d) := by
  unfold written
  simp only [ix3_0, ix3_1, ix3_2, hX]
  rw [Cert.Proof.Reference.result_rest hX hx T Q d hd, quants_apply Q d hd]
  exact cell_rest _ _ _ hx lower_apply upper_apply _ _ (by omega) _ rfl (top_rest _ _ d hd) (low_rest _ _ d hd)

theorem written_eq (h : Cert.Pre_in_range.fn (F := Ideal) X T Q = fun _ => 1#1) : written X T Q = Cert.Proof.Reference.result X T Q := by
  funext i
  obtain ⟨b, s, d, rfl⟩ : ∃ (b : Fin 16384) (s : Fin 50) (d : Fin 128), i = ix3 b s d := ⟨i 0, i 1, i 2, eq_ix3 i⟩
  obtain ⟨x, hX, hx⟩ := Admit.number h (ix2 b s)
  by_cases hd : (d : ℕ) < 32
  · rw [written_first hX hx (Admit.entry h) d hd, Cert.Proof.Reference.result_first hX hx T Q d hd]
  · exact written_rest hX hx d (by omega)

end Cert.Proof.Same

end
-- ==== Proof.lean ====
/- The proof of the certificate: the frames of both kernel programs and of the reference, and the value claim. -/
module

public import proofs.«01_k».proof.Defs
public import proofs.«01_k».proof.Proof.Same
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

theorem kernel_frame : Cert.quiescent_Kernel (hKernel := Cert.Kernel.Gen.facts) := by
  intro m g _
  exact Cert.Kernel.Gen.frame m g

theorem ideal_frame : Cert.quiescent_KernelIdeal (hKernelIdeal := Cert.KernelIdeal.Gen.facts) := by
  intro m g _
  exact Cert.KernelIdeal.Gen.frame m g

theorem ideal_frame_in_range :
    Cert.quiescent_KernelIdeal_pre_in_range (hKernelIdeal := Cert.KernelIdeal.Gen.facts) (hPre_in_range := Admit.facts) := by
  intro m g _
  exact Cert.KernelIdeal.Gen.frame m g

theorem reference_frame : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems rfl r.2⟩)
    (Cert.ReferenceIdeal.Value.run m g)

theorem reference_frame_in_range :
    Cert.quiescent_ReferenceIdeal_pre_in_range (hReferenceIdeal := Cert.ReferenceIdeal.Gen.facts) (hPre_in_range := Admit.facts) := by
  intro m g _
  exact reference_frame m g trivial

theorem value : Cert.algebraic_KernelIdeal_ReferenceIdeal_pre_in_range (hKernelIdeal := Cert.KernelIdeal.Gen.facts)
    (hReferenceIdeal := Cert.ReferenceIdeal.Gen.facts) (hPre_in_range := Admit.facts) := by
  pair_intro
  · run_from Cert.KernelIdeal.Value.run_blocks m g
  · run_from Cert.ReferenceIdeal.Value.run m' g'
    exact (Reference.out_eq m' c).trans (by
      rw [(hagree c).1, (hagree c).2.1, (hagree c).2.2, Final.final m c, Same.written_eq (hpre c)])

theorem claim : Cert.Claim :=
  ⟨Cert.Kernel.Gen.facts, Cert.KernelIdeal.Gen.facts, Cert.ReferenceIdeal.Gen.facts, Admit.facts, kernel_frame, ideal_frame,
    ideal_frame_in_range, reference_frame, reference_frame_in_range, trivial, value⟩

end Cert.Proof

end
